-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decodable_logits [hPre_decodable_logits : Cert.Pre_decodable_logits.Facts] (m : (ℓ : Loc Cert.KernelIdeal.nD Cert.KernelIdeal.τ Cert.KernelIdeal.sig) → Buf (Elt Ideal) ℓ) : Prop :=
  ∀ c : Dev Cert.KernelIdeal.nD,
    (Cert.Pre_decodable_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decodable_logits [hPre_decodable_logits : Cert.Pre_decodable_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decodable_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_decodable_logits [hKernelIdeal : Cert.KernelIdeal.Facts] [hPre_decodable_logits : Cert.Pre_decodable_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decodable_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_decodable_logits [hReferenceIdeal : Cert.ReferenceIdeal.Facts] [hPre_decodable_logits : Cert.Pre_decodable_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decodable_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_decodable_logits [hKernelIdeal : Cert.KernelIdeal.Facts] [hReferenceIdeal : Cert.ReferenceIdeal.Facts] [hPre_decodable_logits : Cert.Pre_decodable_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decodable_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_decodable_logits : Cert.Pre_decodable_logits.Facts),
    quiescent_Kernel (hKernel := hKernel)
    ∧ quiescent_KernelIdeal (hKernelIdeal := hKernelIdeal)
    ∧ quiescent_KernelIdeal_pre_decodable_logits (hKernelIdeal := hKernelIdeal) (hPre_decodable_logits := hPre_decodable_logits)
    ∧ quiescent_ReferenceIdeal (hReferenceIdeal := hReferenceIdeal)
    ∧ quiescent_ReferenceIdeal_pre_decodable_logits (hReferenceIdeal := hReferenceIdeal) (hPre_decodable_logits := hPre_decodable_logits)
    ∧ preserves_Kernel_KernelIdeal
    ∧ algebraic_KernelIdeal_ReferenceIdeal_pre_decodable_logits (hKernelIdeal := hKernelIdeal) (hReferenceIdeal := hReferenceIdeal) (hPre_decodable_logits := hPre_decodable_logits)
-- ==== Pre_decodable_logits.lean ====
abbrev S16x8400x68 : Shape := ⟨3, ![16, 8400, 68]⟩
abbrev S16x8400x80 : Shape := ⟨3, ![16, 8400, 80]⟩
abbrev S8400x2 : Shape := ⟨2, ![8400, 2]⟩
abbrev S8400x1 : Shape := ⟨2, ![8400, 1]⟩
abbrev S17 : Shape := ⟨1, ![17]⟩
abbrev S_ : Shape := ⟨0, ![]⟩

class Facts : Prop where
  bcast_S_S16x8400x68 : S_.BroadcastsInDim S16x8400x68 (![] : Fin 0 → Fin S16x8400x68.rank)
  reducesTo_S16x8400x68_S_d0_1_2 : S16x8400x68.ReducesTo [0, 1, 2] S_
  h_S_ : 0 < S_.numel
  bcast_S_S16x8400x80 : S_.BroadcastsInDim S16x8400x80 (![] : Fin 0 → Fin S16x8400x80.rank)
  reducesTo_S16x8400x80_S_d0_1_2 : S16x8400x80.ReducesTo [0, 1, 2] S_

variable [Facts]

def fn {F : FTy → Type} [FloatOps F] (main_arg0 : FVec F S16x8400x68 .f32) (main_arg1 : FVec F S16x8400x80 .f32) (main_arg2 : FVec F S8400x2 .f32) (main_arg3 : FVec F S8400x1 .f32) (main_arg4 : FVec F S17 .f32) : IVec S_ 1 :=
  let main_cst : FVec F S_ .f32 := constant S_ .f32 0xFF800000#32
  let main_v0 : FVec F S16x8400x68 .f32 := broadcastInDim S16x8400x68 ![] bcast_S_S16x8400x68 main_cst
  let main_v1 : IVec S16x8400x68 1 := cmpf .ogt main_arg0 main_v0
  let main_cst_0 : FVec F S_ .f32 := constant S_ .f32 0x7F800000#32
  let main_v2 : FVec F S16x8400x68 .f32 := broadcastInDim S16x8400x68 ![] bcast_S_S16x8400x68 main_cst_0
  let main_v3 : IVec S16x8400x68 1 := cmpf .olt main_arg0 main_v2
  let main_v4 : IVec S16x8400x68 1 := andi main_v1 main_v3
  let main_c : IVec S_ 1 := constantI S_ 1 1#1
  let main_v5 : IVec S_ 1 := (fun x v => Host.reduce IntOp.andi x v reducesTo_S16x8400x68_S_d0_1_2 h_S_) main_v4 main_c
  let main_cst_1 : FVec F S_ .f32 := constant S_ .f32 0xFF800000#32
  let main_v6 : FVec F S16x8400x80 .f32 := broadcastInDim S16x8400x80 ![] bcast_S_S16x8400x80 main_cst_1
  let main_v7 : IVec S16x8400x80 1 := cmpf .ogt main_arg1 main_v6
  let main_c_2 : IVec S_ 1 := constantI S_ 1 1#1
  let main_v8 : IVec S_ 1 := (fun x v => Host.reduce IntOp.andi x v reducesTo_S16x8400x80_S_d0_1_2 h_S_) main_v7 main_c_2
  let main_v9 : IVec S_ 1 := andi main_v5 main_v8
  main_v9
-- ==== Kernel.lean ====
abbrev S16x8400x68 : Shape := ⟨3, ![16, 8400, 68]⟩
abbrev S16x8400x80 : Shape := ⟨3, ![16, 8400, 80]⟩
abbrev S8400x2 : Shape := ⟨2, ![8400, 2]⟩
abbrev S8400x1 : Shape := ⟨2, ![8400, 1]⟩
abbrev S17 : Shape := ⟨1, ![17]⟩
abbrev S21x16x400 : Shape := ⟨3, ![21, 16, 400]⟩
abbrev S16x400x80 : Shape := ⟨3, ![16, 400, 80]⟩
abbrev S1x16x400 : Shape := ⟨3, ![1, 16, 400]⟩
abbrev S16x400 : Shape := ⟨2, ![16, 400]⟩
abbrev S16x21x400 : Shape := ⟨3, ![16, 21, 400]⟩
abbrev S16x8400 : Shape := ⟨2, ![16, 8400]⟩
abbrev S16x300 : Shape := ⟨2, ![16, 300]⟩
abbrev S16 : Shape := ⟨1, ![16]⟩
abbrev S16x1 : Shape := ⟨2, ![16, 1]⟩
abbrev S16x1x300 : Shape := ⟨3, ![16, 1, 300]⟩
abbrev S1x17 : Shape := ⟨2, ![1, 17]⟩
abbrev S16x300x5 : Shape := ⟨3, ![16, 300, 5]⟩
abbrev S1x8400x68 : Shape := ⟨3, ![1, 8400, 68]⟩
abbrev S1x1x300 : Shape := ⟨3, ![1, 1, 300]⟩
abbrev S1x300x5 : Shape := ⟨3, ![1, 300, 5]⟩
abbrev S300x1 : Shape := ⟨2, ![300, 1]⟩
abbrev S300x68 : Shape := ⟨2, ![300, 68]⟩
abbrev S300x2 : Shape := ⟨2, ![300, 2]⟩
abbrev S300x2100 : Shape := ⟨2, ![300, 2100]⟩
abbrev S1x2100x68 : Shape := ⟨3, ![1, 2100, 68]⟩
abbrev S2100x68 : Shape := ⟨2, ![2100, 68]⟩
abbrev S2100x2 : Shape := ⟨2, ![2100, 2]⟩
abbrev S2100x1 : Shape := ⟨2, ![2100, 1]⟩
abbrev S300x17 : Shape := ⟨2, ![300, 17]⟩
abbrev S300 : Shape := ⟨1, ![300]⟩
abbrev S1x300 : Shape := ⟨2, ![1, 300]⟩
abbrev S300x300 : Shape := ⟨2, ![300, 300]⟩
abbrev S300x5 : Shape := ⟨2, ![300, 5]⟩

abbrev nBuf : Space → Nat
  | .hbm => 14
  | .vmem => 18
  | .smem => 0
  | _ => 0

abbrev bufTy : (tb : Table) → Fin (tcTables nBuf tb) → BufTy
  | .hbm, ⟨0, _⟩ => ⟨S16x8400x68, .f32⟩
  | .hbm, ⟨1, _⟩ => ⟨S16x8400x80, .f32⟩
  | .hbm, ⟨2, _⟩ => ⟨S8400x2, .f32⟩
  | .hbm, ⟨3, _⟩ => ⟨S8400x1, .f32⟩
  | .hbm, ⟨4, _⟩ => ⟨S17, .f32⟩
  | .hbm, ⟨5, _⟩ => ⟨S21x16x400, .f32⟩
  | .hbm, ⟨6, _⟩ => ⟨S16x21x400, .f32⟩
  | .hbm, ⟨7, _⟩ => ⟨S16x8400, .f32⟩
  | .hbm, ⟨8, _⟩ => ⟨S16x300, .f32⟩
  | .hbm, ⟨9, _⟩ => ⟨S16x300, .i32⟩
  | .hbm, ⟨10, _⟩ => ⟨S16x1x300, .i32⟩
  | .hbm, ⟨11, _⟩ => ⟨S16x1x300, .f32⟩
  | .hbm, ⟨12, _⟩ => ⟨S1x17, .f32⟩
  | .hbm, ⟨13, _⟩ => ⟨S16x300x5, .f32⟩
  | .local _ .vmem, ⟨0, _⟩ => ⟨S16x400x80, .f32⟩
  | .local _ .vmem, ⟨1, _⟩ => ⟨S16x400x80, .f32⟩
  | .local _ .vmem, ⟨2, _⟩ => ⟨S1x16x400, .f32⟩
  | .local _ .vmem, ⟨3, _⟩ => ⟨S1x16x400, .f32⟩
  | .local _ .vmem, ⟨4, _⟩ => ⟨S16x8400, .f32⟩
  | .local _ .vmem, ⟨5, _⟩ => ⟨S16x300, .f32⟩
  | .local _ .vmem, ⟨6, _⟩ => ⟨S16x300, .i32⟩
  | .local _ .vmem, ⟨7, _⟩ => ⟨S1x8400x68, .f32⟩
  | .local _ .vmem, ⟨8, _⟩ => ⟨S1x8400x68, .f32⟩
  | .local _ .vmem, ⟨9, _⟩ => ⟨S1x1x300, .i32⟩
  | .local _ .vmem, ⟨10, _⟩ => ⟨S1x1x300, .i32⟩
  | .local _ .vmem, ⟨11, _⟩ => ⟨S1x1x300, .f32⟩
  | .local _ .vmem, ⟨12, _⟩ => ⟨S1x1x300, .f32⟩
  | .local _ .vmem, ⟨13, _⟩ => ⟨S8400x2, .f32⟩
  | .local _ .vmem, ⟨14, _⟩ => ⟨S8400x1, .f32⟩
  | .local _ .vmem, ⟨15, _⟩ => ⟨S1x17, .f32⟩
  | .local _ .vmem, ⟨16, _⟩ => ⟨S1x300x5, .f32⟩
  | .local _ .vmem, ⟨17, _⟩ => ⟨S1x300x5, .f32⟩
  | _, _ => ⟨S16x8400x68, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc2_sem0_0 : DmaSem sig := 7
abbrev cc2_sem0_1 : DmaSem sig := 8
abbrev cc2_sem1_0 : DmaSem sig := 9
abbrev cc2_sem1_1 : DmaSem sig := 10
abbrev cc2_sem2_0 : DmaSem sig := 11
abbrev cc2_sem2_1 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem6_1 : DmaSem sig := 17

abbrev nD : Nat := 1
abbrev τ : Topo := Topo.v7x

variable {F : FTy → Type} [FloatOps F]

abbrev grid0 : Pipeline.Grid := ⟨1, ![21], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x400x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

@[reducible] def k1_t1_loop : Scf.Loop 32 :=
  let c0_i32_2 : BitVec 32 := 0#32
  let c300_i32 : BitVec 32 := 300#32
  let v7 : BitVec 32 := Scalar.addi c0_i32_2 c300_i32
  let c1_i32 : BitVec 32 := 1#32
  ⟨c0_i32_2, v7, c1_i32⟩
abbrev stage1_0 : Fin 1 → Memref sig .tc .vmem S16x8400 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x300 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x8400x68 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x300 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x300 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8400x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8400x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x17 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x300x5 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== ReferenceIdeal.lean ====
abbrev S16x8400x68 : Shape := ⟨3, ![16, 8400, 68]⟩
abbrev S16x8400x80 : Shape := ⟨3, ![16, 8400, 80]⟩
abbrev S8400x2 : Shape := ⟨2, ![8400, 2]⟩
abbrev S8400x1 : Shape := ⟨2, ![8400, 1]⟩
abbrev S17 : Shape := ⟨1, ![17]⟩
abbrev S16x8400x4x17 : Shape := ⟨4, ![16, 8400, 4, 17]⟩
abbrev S_ : Shape := ⟨0, ![]⟩
abbrev S16x8400x4 : Shape := ⟨3, ![16, 8400, 4]⟩
abbrev S16x8400x4x1 : Shape := ⟨4, ![16, 8400, 4, 1]⟩
abbrev S16x8400x2 : Shape := ⟨3, ![16, 8400, 2]⟩
abbrev S1x8400x2 : Shape := ⟨3, ![1, 8400, 2]⟩
abbrev S1x8400x1 : Shape := ⟨3, ![1, 8400, 1]⟩
abbrev S16x8400 : Shape := ⟨2, ![16, 8400]⟩
abbrev S16x300 : Shape := ⟨2, ![16, 300]⟩
abbrev S16x300x1 : Shape := ⟨3, ![16, 300, 1]⟩
abbrev S1 : Shape := ⟨1, ![1]⟩
abbrev S1x1x1 : Shape := ⟨3, ![1, 1, 1]⟩
abbrev S16x300x4 : Shape := ⟨3, ![16, 300, 4]⟩
abbrev S16x300x2 : Shape := ⟨3, ![16, 300, 2]⟩
abbrev S16x300x1x2 : Shape := ⟨4, ![16, 300, 1, 2]⟩
abbrev S16x1x300x2 : Shape := ⟨4, ![16, 1, 300, 2]⟩
abbrev S16x300x300x2 : Shape := ⟨4, ![16, 300, 300, 2]⟩
abbrev S16x300x300x1 : Shape := ⟨4, ![16, 300, 300, 1]⟩
abbrev S16x300x300 : Shape := ⟨3, ![16, 300, 300]⟩
abbrev S16x1x300 : Shape := ⟨3, ![16, 1, 300]⟩
abbrev S300x300 : Shape := ⟨2, ![300, 300]⟩
abbrev S16x300x5 : Shape := ⟨3, ![16, 300, 5]⟩

abbrev nBuf : Space → Nat
  | .hbm => 133
  | .vmem => 0
  | .smem => 0
  | _ => 0

abbrev hbmTy0_0 (i : Nat) : BufTy := match i % 128 with
  | 0 => ⟨S16x8400x68, .f32⟩
  | 1 => ⟨S16x8400x80, .f32⟩
  | 2 => ⟨S8400x2, .f32⟩
  | 3 => ⟨S8400x1, .f32⟩
  | 4 => ⟨S17, .f32⟩
  | 5 => ⟨S16x8400x4x17, .f32⟩
  | 6 => ⟨S_, .f32⟩
  | 7 => ⟨S16x8400x4, .f32⟩
  | 8 => ⟨S_, .f32⟩
  | 9 => ⟨S16x8400x4, .f32⟩
  | 10 => ⟨S16x8400x4, .f32⟩
  | 11 => ⟨S16x8400x4x1, .f32⟩
  | 12 => ⟨S16x8400x4x17, .f32⟩
  | 13 => ⟨S16x8400x4x17, .f32⟩
  | 14 => ⟨S16x8400x4x17, .f32⟩
  | 15 => ⟨S_, .f32⟩
  | 16 => ⟨S16x8400x4, .f32⟩
  | 17 => ⟨S16x8400x4x1, .f32⟩
  | 18 => ⟨S16x8400x4x17, .f32⟩
  | 19 => ⟨S16x8400x4x17, .f32⟩
  | 20 => ⟨S16x8400x4, .f32⟩
  | 21 => ⟨S16x8400x2, .f32⟩
  | 22 => ⟨S16x8400x2, .f32⟩
  | 23 => ⟨S1x8400x2, .f32⟩
  | 24 => ⟨S16x8400x2, .f32⟩
  | 25 => ⟨S16x8400x2, .f32⟩
  | 26 => ⟨S1x8400x2, .f32⟩
  | 27 => ⟨S16x8400x2, .f32⟩
  | 28 => ⟨S16x8400x2, .f32⟩
  | 29 => ⟨S16x8400x4, .f32⟩
  | 30 => ⟨S1x8400x1, .f32⟩
  | 31 => ⟨S16x8400x4, .f32⟩
  | 32 => ⟨S16x8400x4, .f32⟩
  | 33 => ⟨S16x8400x80, .f32⟩
  | 34 => ⟨S16x8400x80, .f32⟩
  | 35 => ⟨S_, .f32⟩
  | 36 => ⟨S16x8400x80, .f32⟩
  | 37 => ⟨S16x8400x80, .f32⟩
  | 38 => ⟨S_, .f32⟩
  | 39 => ⟨S16x8400x80, .f32⟩
  | 40 => ⟨S16x8400x80, .f32⟩
  | 41 => ⟨S_, .f32⟩
  | 42 => ⟨S16x8400, .f32⟩
  | 43 => ⟨S16x300, .f32⟩
  | 44 => ⟨S16x300, .i32⟩
  | 45 => ⟨S16x300x1, .i32⟩
  | 46 => ⟨S_, .i32⟩
  | 47 => ⟨S16x300x1, .i32⟩
  | 48 => ⟨S16x300x1, .i1⟩
  | 49 => ⟨S_, .i32⟩
  | 50 => ⟨S16x300x1, .i32⟩
  | 51 => ⟨S16x300x1, .i32⟩
  | 52 => ⟨S16x300x1, .i32⟩
  | 53 => ⟨S1, .i32⟩
  | 54 => ⟨S_, .i32⟩
  | 55 => ⟨S16x300x1, .i32⟩
  | 56 => ⟨S16x300x1, .i1⟩
  | 57 => ⟨S1x1x1, .i32⟩
  | 58 => ⟨S16x300x1, .i32⟩
  | 59 => ⟨S16x300x1, .i1⟩
  | 60 => ⟨S16x300x1, .i1⟩
  | 61 => ⟨S_, .i1⟩
  | 62 => ⟨S16x300, .i1⟩
  | 63 => ⟨S16x300x4, .f32⟩
  | 64 => ⟨S16x300x4, .i1⟩
  | 65 => ⟨S_, .f32⟩
  | 66 => ⟨S16x300x4, .f32⟩
  | 67 => ⟨S16x300x4, .f32⟩
  | 68 => ⟨S16x300x2, .f32⟩
  | 69 => ⟨S16x300x1x2, .f32⟩
  | 70 => ⟨S16x300x2, .f32⟩
  | 71 => ⟨S16x1x300x2, .f32⟩
  | 72 => ⟨S16x300x300x2, .f32⟩
  | 73 => ⟨S16x300x300x2, .f32⟩
  | 74 => ⟨S16x300x300x2, .f32⟩
  | 75 => ⟨S16x300x2, .f32⟩
  | 76 => ⟨S16x300x1x2, .f32⟩
  | 77 => ⟨S16x300x2, .f32⟩
  | 78 => ⟨S16x1x300x2, .f32⟩
  | 79 => ⟨S16x300x300x2, .f32⟩
  | 80 => ⟨S16x300x300x2, .f32⟩
  | 81 => ⟨S16x300x300x2, .f32⟩
  | 82 => ⟨S16x300x300x2, .f32⟩
  | 83 => ⟨S_, .f32⟩
  | 84 => ⟨S_, .f32⟩
  | 85 => ⟨S16x300x300x2, .f32⟩
  | 86 => ⟨S16x300x300x2, .f32⟩
  | 87 => ⟨S16x300x300x1, .f32⟩
  | 88 => ⟨S16x300x300, .f32⟩
  | 89 => ⟨S16x300x300x1, .f32⟩
  | 90 => ⟨S16x300x300, .f32⟩
  | 91 => ⟨S16x300x300, .f32⟩
  | 92 => ⟨S16x300x1, .f32⟩
  | 93 => ⟨S16x300, .f32⟩
  | 94 => ⟨S16x300x1, .f32⟩
  | 95 => ⟨S16x300, .f32⟩
  | 96 => ⟨S16x300, .f32⟩
  | 97 => ⟨S16x300x1, .f32⟩
  | 98 => ⟨S16x300, .f32⟩
  | 99 => ⟨S16x300x1, .f32⟩
  | 100 => ⟨S16x300, .f32⟩
  | 101 => ⟨S16x300, .f32⟩
  | 102 => ⟨S16x300, .f32⟩
  | 103 => ⟨S16x300x1, .f32⟩
  | 104 => ⟨S16x1x300, .f32⟩
  | 105 => ⟨S16x300x300, .f32⟩
  | 106 => ⟨S16x300x300, .f32⟩
  | 107 => ⟨S16x300x300, .f32⟩
  | 108 => ⟨S16x300x300, .f32⟩
  | 109 => ⟨S_, .f32⟩
  | 110 => ⟨S16x300x300, .f32⟩
  | 111 => ⟨S16x300x300, .f32⟩
  | 112 => ⟨S16x300x300, .f32⟩
  | 113 => ⟨S300x300, .i32⟩
  | 114 => ⟨S_, .i32⟩
  | 115 => ⟨S300x300, .i32⟩
  | 116 => ⟨S300x300, .i32⟩
  | 117 => ⟨S300x300, .i32⟩
  | 118 => ⟨S300x300, .i1⟩
  | 119 => ⟨S_, .f32⟩
  | 120 => ⟨S300x300, .f32⟩
  | 121 => ⟨S16x300x300, .i1⟩
  | 122 => ⟨S16x300x300, .f32⟩
  | 123 => ⟨S16x300x300, .f32⟩
  | 124 => ⟨S_, .f32⟩
  | 125 => ⟨S16x300, .f32⟩
  | 126 => ⟨S_, .f32⟩
  | 127 => ⟨S16x300, .f32⟩
  | _ => ⟨S16x8400x68, .f32⟩

abbrev hbmTy0_1 (i : Nat) : BufTy := match i % 128 with
  | 0 => ⟨S16x300, .i1⟩
  | 1 => ⟨S16x300, .f32⟩
  | 2 => ⟨S16x300, .f32⟩
  | 3 => ⟨S16x300x1, .f32⟩
  | 4 => ⟨S16x300x5, .f32⟩
  | _ => ⟨S16x8400x68, .f32⟩

abbrev hbmTy (i : Nat) : BufTy := match i / 128 with
  | 0 => hbmTy0_0 i
  | 1 => hbmTy0_1 i
  | _ => ⟨S16x8400x68, .f32⟩

abbrev bufTy : (tb : Table) → Fin (tcTables nBuf tb) → BufTy
  | .hbm, ⟨i, _⟩ => hbmTy i
  | _, _ => ⟨S16x8400x68, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_values : Ref sig .tc := ⟨.hbm, 43, rfl⟩
abbrev main_indices : Ref sig .tc := ⟨.hbm, 44, rfl⟩
abbrev main_v32 : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_c_1 : Ref sig .tc := ⟨.hbm, 53, rfl⟩
abbrev main_call0_c_2 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_c_3 : Ref sig .tc := ⟨.hbm, 61, rfl⟩
abbrev main_call0_v11 : Ref sig .tc := ⟨.hbm, 62, rfl⟩
abbrev main_call0_v12 : Ref sig .tc := ⟨.hbm, 63, rfl⟩
abbrev main_call0_v13 : Ref sig .tc := ⟨.hbm, 64, rfl⟩
abbrev main_call0_cst : Ref sig .tc := ⟨.hbm, 65, rfl⟩
abbrev main_call0_v14 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_5 : Ref sig .tc := ⟨.hbm, 83, rfl⟩
abbrev main_call1_v0 : Ref sig .tc := ⟨.hbm, 84, rfl⟩
abbrev main_call1_v1 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_6 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_call2_v0 : Ref sig .tc := ⟨.hbm, 113, rfl⟩
abbrev main_call2_c : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_cst : Ref sig .tc := ⟨.hbm, 119, rfl⟩
abbrev main_call2_v5 : Ref sig .tc := ⟨.hbm, 120, rfl⟩
abbrev main_call2_v6 : Ref sig .tc := ⟨.hbm, 121, rfl⟩
abbrev main_call2_v7 : Ref sig .tc := ⟨.hbm, 122, rfl⟩
abbrev main_v75 : Ref sig .tc := ⟨.hbm, 123, rfl⟩
abbrev main_cst_7 : Ref sig .tc := ⟨.hbm, 124, rfl⟩
abbrev main_v76 : Ref sig .tc := ⟨.hbm, 125, rfl⟩
abbrev main_cst_8 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩

abbrev nD : Nat := 1
abbrev τ : Topo := Topo.v7x

variable {F : FTy → Type} [FloatOps F]
-- ==== Proof.Rank.lean ====
/- Ranking by repeated maximum: the positions that rounds of "take the maximum, note the first position that
   has it, mask that position" visit are the positions a stable descending sort lists. -/
module

public import Idealize.ShloMosaic.Lib.SortFacts
public import Idealize.ShloMosaic.PureOps.Ideal.Laws

@[expose] public section

noncomputable section

namespace Cert.Nms

open Idealize.ShloMosaic

variable {n : ℕ}

/-- Position `k` is ahead of position `k'`: its value is larger, or equal and the position is smaller. -/
def Ahead (f : Fin n → EReal) (k k' : Fin n) : Prop := f k' < f k ∨ (f k' = f k ∧ k < k')

/-- Being ahead is transitive. -/
theorem Ahead.trans {f : Fin n → EReal} {a b c : Fin n} (hab : Ahead f a b) (hbc : Ahead f b c) : Ahead f a c := by
  rcases hab with h | ⟨h, h'⟩ <;> rcases hbc with k | ⟨k, k'⟩
  · exact .inl (k.trans h)
  · exact .inl (k ▸ h)
  · exact .inl (h ▸ k)
  · exact .inr ⟨k.trans h, h'.trans k'⟩

/-- Inserting a position smaller than every listed one keeps a list in order of rank. -/
theorem pairwise_insert (f : Fin n → EReal) (a : Fin n) (l : List (Fin n)) (ha : ∀ b ∈ l, a < b)
    (hl : l.Pairwise (Ahead f)) : (insertBefore (fun k k' => decide (f k' < f k)) a l).Pairwise (Ahead f) := by
  induction l with
  | nil => exact List.pairwise_singleton _ _
  | cons b l ih =>
    rw [List.pairwise_cons] at hl
    unfold insertBefore
    split
    · rename_i hb
      rw [List.pairwise_cons]
      refine ⟨fun c hc => ?_, ih (fun c hc => ha c (List.mem_cons_of_mem b hc)) hl.2⟩
      rcases List.mem_cons.mp ((perm_insertBefore _ a l).mem_iff.mp hc) with rfl | hc
      · exact .inl (of_decide_eq_true hb)
      · exact hl.1 c hc
    · rename_i hb
      have hab : Ahead f a b := by
        rcases lt_or_eq_of_le (not_lt.mp fun h => hb (decide_eq_true h)) with h | h
        · exact .inl h
        · exact .inr ⟨h, ha b List.mem_cons_self⟩
      rw [List.pairwise_cons]
      refine ⟨fun c hc => ?_, List.pairwise_cons.mpr hl⟩
      rcases List.mem_cons.mp hc with rfl | hc
      · exact hab
      · exact hab.trans (hl.1 c hc)

/-- A stable descending sort of an increasing list of positions lists them in order of rank. -/
theorem pairwise_sort (f : Fin n → EReal) (l : List (Fin n)) (hl : l.Pairwise (· < ·)) :
    (stableSort (fun k k' => decide (f k' < f k)) l).Pairwise (Ahead f) := by
  induction l with
  | nil => exact List.Pairwise.nil
  | cons a l ih =>
    rw [List.pairwise_cons] at hl
    unfold stableSort
    exact pairwise_insert f a _ (fun b hb => hl.1 b ((perm_stableSort _ l).mem_iff.mp hb)) (ih hl.2)

/-- The position of rank `k` in the stable descending order of `f`. -/
def rank (f : Fin n → EReal) : Fin n → Fin n := sortedFrom fun k k' => decide (f k' < f k)

/-- A smaller rank is ahead. -/
theorem rank_ahead (f : Fin n → EReal) {i j : Fin n} (hij : i < j) : Ahead f (rank f i) (rank f j) := by
  have hp := List.pairwise_iff_get.mp (pairwise_sort f (List.finRange n) (List.pairwise_lt_finRange n))
  unfold rank sortedFrom
  exact hp (i.cast _) (j.cast _) hij

/-- What is left of `f` after `t` rounds: the positions of the first `t` ranks are masked. -/
def masked (f : Fin n → EReal) (t : ℕ) (i : Fin n) : EReal :=
  open Classical in if ∃ s : Fin n, s.val < t ∧ rank f s = i then ⊥ else f i

/-- Before the first round nothing is masked. -/
theorem masked_zero (f : Fin n → EReal) : masked f 0 = f := by
  funext i
  exact if_neg fun ⟨_, h, _⟩ => absurd h (Nat.not_lt_zero _)

/-- A round masks the position of its rank. -/
theorem masked_succ (f : Fin n → EReal) (t : Fin n) (i : Fin n) :
    masked f (t.val + 1) i = if i = rank f t then ⊥ else masked f t.val i := by
  unfold masked
  by_cases h : i = rank f t
  · rw [if_pos h, if_pos ⟨t, Nat.lt_succ_self _, h.symm⟩]
  · rw [if_neg h]
    congr 1
    refine propext ⟨fun ⟨s, hs, e⟩ => ⟨s, ?_, e⟩, fun ⟨s, hs, e⟩ => ⟨s, Nat.lt_succ_of_lt hs, e⟩⟩
    rcases Nat.lt_succ_iff_lt_or_eq.mp hs with h' | h'
    · exact h'
    · exact absurd (Fin.ext h' ▸ e.symm) h

/-- A round's own position is not masked yet. -/
theorem masked_rank (f : Fin n → EReal) (t : Fin n) : masked f t.val (rank f t) = f (rank f t) :=
  if_neg fun ⟨_, h, e⟩ => absurd (sortedFrom_injective _ e) (Fin.ne_of_lt h)

/-- Every value left at round `t` is at most the value of rank `t`. -/
theorem masked_le (f : Fin n → EReal) (t i : Fin n) : masked f t.val i ≤ f (rank f t) := by
  unfold masked
  split
  · exact bot_le
  · rename_i h
    obtain ⟨s, rfl⟩ := sortedFrom_surjective (fun k k' => decide (f k' < f k)) i
    rcases lt_trichotomy s t with h' | h' | h'
    · exact absurd ⟨s, h', rfl⟩ h
    · exact le_of_eq (congrArg (fun s => f (rank f s)) h')
    · rcases rank_ahead f h' with k | k
      · exact k.le
      · exact k.1.le

/-- The maximum left at round `t` is the value of rank `t`. -/
theorem masked_max (f : Fin n → EReal) (t : Fin n) :
    Finset.univ.fold max ⊥ (masked f t.val) = f (rank f t) := by
  refine le_antisymm (Finset.fold_max_le _ |>.mpr ⟨bot_le, fun i _ => masked_le f t i⟩) ?_
  exact Finset.le_fold_max _ |>.mpr (.inr ⟨rank f t, Finset.mem_univ _, (masked_rank f t).ge⟩)

/-- When every value is above `⊥`, the first position with the maximum left at round `t` is that of rank `t`. -/
theorem masked_first (f : Fin n → EReal) (hf : ∀ i, ⊥ < f i) (t i : Fin n) (h : masked f t.val i = f (rank f t)) :
    rank f t ≤ i := by
  unfold masked at h
  split at h
  · exact absurd h (hf _).ne
  · rename_i hi
    obtain ⟨s, rfl⟩ := sortedFrom_surjective (fun k k' => decide (f k' < f k)) i
    rcases lt_trichotomy s t with h' | h' | h'
    · exact absurd ⟨s, h', rfl⟩ hi
    · exact le_of_eq (congrArg (rank f) h'.symm)
    · rcases rank_ahead f h' with k | k
      · exact absurd h k.ne
      · exact k.2.le

end Cert.Nms

end
-- ==== Proof.Select.lean ====
/- The selection kernel: 300 rounds of maximum, first position of the maximum, mask. What its carried values hold
   after any number of rounds, and so what its two results are: the ranked values and the ranked positions. -/
module

public import proofs.«01_k».proof.Proof.Gen.KernelIdeal.Frame
public import proofs.«01_k».proof.Proof.Rank
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.Nms

/-- The `f32` pattern of minus infinity is the least extended real. -/
theorem ofBits_minus_inf : Ideal.ofBits .f32 0xFF800000#32 = ⊥ := by simp [Ideal.ofBits, Ideal.ieee]

/-- A word is at most a signed minimum exactly when it is at most both. -/
theorem le_minsi (c a b : BitVec 32) : c.toInt ≤ (IntOp.minsi a b).toInt ↔ c.toInt ≤ a.toInt ∧ c.toInt ≤ b.toInt := by
  unfold IntOp.minsi
  split <;> rename_i h <;> simp only [BitVec.slt, decide_eq_true_eq] at h <;> omega

/-- The signed minimum of a family is the member that is at most every other. -/
theorem fold_minsi {n : ℕ} (init : BitVec 32) (f : Fin n → BitVec 32) (j : Fin n)
    (hinit : (f j).toInt ≤ init.toInt) (hf : ∀ i, (f j).toInt ≤ (f i).toInt) :
    Finset.univ.fold IntOp.minsi init f = f j := by
  have key := fun c : BitVec 32 => Finset.fold_op_rel_iff_and (op := IntOp.minsi) (f := f) (b := init)
    (s := Finset.univ) (r := fun x y : BitVec 32 => x.toInt ≤ y.toInt) (fun {x y z} => le_minsi x y z) (c := c)
  refine BitVec.eq_of_toInt_eq (le_antisymm ?_ ?_)
  · exact ((key _).mp le_rfl).2 j (Finset.mem_univ j)
  · exact (key _).mpr ⟨hinit, fun i _ => hf i⟩

/-- A natural number under `2 ^ 31` is its word's signed value. -/
theorem toInt_ofNat_small (a : ℕ) (h : a < 2 ^ 31) : (BitVec.ofNat 32 a).toInt = a := by
  have ht : (BitVec.ofNat 32 a).toNat = a := by rw [BitVec.toNat_ofNat, Nat.mod_eq_of_lt (by omega)]
  rw [BitVec.toInt_eq_toNat_of_lt (by rw [ht]; omega), ht]

/-- Words of naturals under `2 ^ 32` are equal exactly when the naturals are. -/
theorem ofNat_eq_iff (a b : ℕ) (ha : a < 2 ^ 32) (hb : b < 2 ^ 32) : BitVec.ofNat 32 a = BitVec.ofNat 32 b ↔ a = b := by
  refine ⟨fun h => ?_, congrArg _⟩
  have := congrArg BitVec.toNat h
  simp only [BitVec.toNat_ofNat] at this
  omega

/-- A select on the equality of two small naturals' words. -/
theorem select_ofNat_eq {α : Type} (a b : ℕ) (ha : a < 2 ^ 32) (hb : b < 2 ^ 32) (x y : α) :
    Scalar.select (IntOp.cmpi .eq (BitVec.ofNat 32 a) (BitVec.ofNat 32 b)) x y = if a = b then x else y := by
  unfold Scalar.select IntOp.cmpi
  by_cases h : a = b
  · rw [if_pos h, h]; simp
  · have := mt (ofNat_eq_iff a b ha hb).mp h
    simp only [beq_eq_false_iff_ne.mpr this, BitVec.ofBool_false, if_neg h]
    exact if_neg (by decide)

/-- The loop's induction word is its trip. -/
theorem trip_word (k : ℕ) : Scf.iv 0#32 1#32 k = BitVec.ofNat 32 k := by
  simp only [Scf.iv, BitVec.mul_one, BitVec.zero_add]

/-- A property of the carried values that every round advances holds, after the loop, of the round count. -/
theorem fold_rounds {σ : Type} {n : ℕ} (P : ℕ → σ → Prop) (g : Fin n → σ → σ) (init : σ) (h0 : P 0 init)
    (hs : ∀ (k : Fin n) a, P k.val a → P (k.val + 1) (g k a)) : P n (Scf.fold g init) := by
  rw [Scf.fold_eq]
  induction n with
  | zero => exact h0
  | succ n ih =>
    rw [List.finRange_succ_last, List.foldl_append, List.foldl_map]
    exact hs (Fin.last n) _ (ih (fun k a => g k.castSucc a) fun k a => hs k.castSucc a)

end Cert.Nms

namespace Cert.KernelIdeal.Value

open Cert.KernelIdeal Cert.KernelIdeal.Gen Cert.Nms

/-- Row `b` of a 16 x 8400 array. -/
def row (x : FVec Ideal S16x8400 .f32) (b : Fin 16) : Fin 8400 → EReal := fun l => x (ix2 b l)

/-- The values a round carries: what is left, its maximum, the values found, the positions found. -/
abbrev Carried : Type := FVec Ideal S16x8400 .f32 × FVec Ideal S16x1 .f32 × FVec Ideal S16x300 .f32 × IVec S16x300 32

/-- One round of the selection loop. -/
abbrev round (k : Fin k1_t1_loop.trips) (a : Carried) : Carried :=
  (k1_pay6 a.1 a.2.1, k1_pay7 a.1 a.2.1, k1_pay8 k a.2.1 a.2.2.1, k1_pay9 k a.1 a.2.1 a.2.2.2)

/-- The carried values after `t` rounds, row by row. -/
structure After (x : FVec Ideal S16x8400 .f32) (t : ℕ) (a : Carried) : Prop where
  left : ∀ (b : Fin 16) (l : Fin 8400), a.1 (ix2 b l) = masked (row x b) t l
  top : ∀ b : Fin 16, a.2.1 (ix2 b 0) = Finset.univ.fold max ⊥ (masked (row x b) t)
  vals : ∀ (b : Fin 16) (k : Fin 300), k.val < t →
    a.2.2.1 (ix2 b k) = row x b (rank (row x b) ⟨k.val, by omega⟩)
  poss : ∀ (b : Fin 16) (k : Fin 300), k.val < t →
    a.2.2.2 (ix2 b k) = BitVec.ofNat 32 (rank (row x b) ⟨k.val, by omega⟩).val

/-- The loop takes 300 rounds. -/
theorem trips_eq : k1_t1_loop.trips = 300 := by decide +kernel

/-- The position a round notes is that of the round's rank. -/
theorem pick_at (x : FVec Ideal S16x8400 .f32) (hx : ∀ b l, ⊥ < row x b l) (t : Fin 8400) (a : Carried)
    (h : After x t.val a) (b : Fin 16) :
    k1_pay5 a.1 a.2.1 (ix2 b 0) = BitVec.ofNat 32 (rank (row x b) t).val := by
  have hr := (rank (row x b) t).isLt
  pointwise [k1_pay5]
  simp only [h.left, h.top, masked_max]
  refine (fold_minsi _ _ (rank (row x b) t) ?_ fun i => ?_).trans ?_
  all_goals rw [if_pos (masked_rank _ t)]
  · rw [toInt_ofNat_small _ (by omega)]
    have : (2147483647#32 : BitVec 32).toInt = 2147483647 := by decide
    omega
  · rw [toInt_ofNat_small _ (by omega)]
    split
    · rename_i hi
      have := masked_first (row x b) (hx b) t i hi
      rw [toInt_ofNat_small _ (by omega)]
      have : (rank (row x b) t).val ≤ i.val := this
      omega
    · have : (8400#32 : BitVec 32).toInt = 8400 := by decide
      omega

/-- What is left after a round. -/
theorem left_at (x : FVec Ideal S16x8400 .f32) (hx : ∀ b l, ⊥ < row x b l) (t : Fin 8400) (a : Carried)
    (h : After x t.val a) (b : Fin 16) (l : Fin 8400) :
    k1_pay6 a.1 a.2.1 (ix2 b l) = masked (row x b) (t.val + 1) l := by
  have hr := (rank (row x b) t).isLt
  pointwise [k1_pay6]
  rw [pick_at x hx t a h b, h.left, select_ofNat_eq _ _ (by omega) (by omega), masked_succ, ofBits_minus_inf]
  simp only [Fin.ext_iff]

/-- A round takes the carried values of `t` rounds to those of `t + 1`. -/
theorem round_at (x : FVec Ideal S16x8400 .f32) (hx : ∀ b l, ⊥ < row x b l) (k : Fin k1_t1_loop.trips) (a : Carried)
    (h : After x k.val a) : After x (k.val + 1) (round k a) := by
  have hk : k.val < 300 := trips_eq ▸ k.isLt
  have hleft : ∀ (b : Fin 16) (l : Fin 8400), k1_pay6 a.1 a.2.1 (ix2 b l) = masked (row x b) (k.val + 1) l :=
    fun b l => left_at x hx ⟨k.val, by omega⟩ a h b l
  refine ⟨fun b l => ?_, fun b => ?_, fun b j hj => ?_, fun b j hj => ?_⟩
  all_goals dsimp only [round]
  · exact hleft b l
  · pointwise [k1_pay7]
    rw [ofBits_minus_inf]
    exact congrArg (fun f => Finset.univ.fold max ⊥ f) (funext fun l => hleft b l)
  · pointwise [k1_pay8]
    rw [trip_word, select_ofNat_eq _ _ (by omega) (by omega)]
    split
    · rename_i e
      rw [h.top]
      simp only [show (j.val : ℕ) = k.val from e]
      exact masked_max (row x b) ⟨k.val, by omega⟩
    · exact h.vals b j (by omega)
  · pointwise [k1_pay9]
    rw [trip_word, select_ofNat_eq _ _ (by omega) (by omega)]
    split
    · rename_i e
      rw [pick_at x hx ⟨k.val, by omega⟩ a h b]
      simp only [show (j.val : ℕ) = k.val from e]
    · exact h.poss b j (by omega)

/-- The carried values before the first round. -/
theorem start_at (x : FVec Ideal S16x8400 .f32) : After x 0 (k1_pay1 x, k1_pay2 x, k1_pay3 (F := Ideal), k1_pay4) := by
  refine ⟨fun b l => ?_, fun b => ?_, fun b j hj => absurd hj (Nat.not_lt_zero _), fun b j hj => absurd hj (Nat.not_lt_zero _)⟩
  · rw [masked_zero]; pointwise [k1_pay1]; rfl
  · rw [masked_zero]; pointwise [k1_pay2, k1_pay1]; rw [ofBits_minus_inf]; rfl

/-- The carried values after the whole loop. -/
theorem loop_at (x : FVec Ideal S16x8400 .f32) (hx : ∀ b l, ⊥ < row x b l) :
    After x 300 (Scf.fold round (k1_pay1 x, k1_pay2 x, k1_pay3 (F := Ideal), k1_pay4)) :=
  trips_eq ▸ fold_rounds (After x) round _ (start_at x) fun k a h => round_at x hx k a h

variable (V : (c : Dev nD) → (b : Ref sig .tc) → Buf (Elt Ideal) ((c : Thread nD τ).loc b))

/-- The selection region's values block: the sigmoids of the ranked values. -/
theorem outs_vals (c : Dev nD) (t : Fin cfg1.N) (x : FVec Ideal S16x8400 .f32) (hX : iblk1 V c 0 t = x)
    (hx : ∀ b l, ⊥ < row x b l) (b : Fin 16) (k : Fin 300) :
    (outsAt1 V c t).1 (ix2 b k) = Ideal.div 1 (1 + Ideal.exp (0 - row x b (rank (row x b) ⟨k.val, by omega⟩))) := by
  rw [outsAt1]
  frame_out
  rw [read_unread_whole, hX]
  pointwise [k1_pay10]
  rw [(loop_at x hx).vals b k k.isLt]

/-- The selection region's positions block: the ranked positions. -/
theorem outs_poss (c : Dev nD) (t : Fin cfg1.N) (x : FVec Ideal S16x8400 .f32) (hX : iblk1 V c 0 t = x)
    (hx : ∀ b l, ⊥ < row x b l) (b : Fin 16) (k : Fin 300) :
    (outsAt1 V c t).2 (ix2 b k) = BitVec.ofNat 32 (rank (row x b) ⟨k.val, by omega⟩).val := by
  rw [outsAt1]
  frame_out
  rw [read_unread_whole, hX]
  exact (loop_at x hx).poss b k k.isLt

end Cert.KernelIdeal.Value

end
-- ==== Proof.Scores.lean ====
/- The first two kernels' results as arrays: the per-anchor class maxima, and from them the ranked values and
   positions of each batch row. -/
module

public import proofs.«01_k».proof.Proof.Select
public import Idealize.ShloMosaic.Lib.Claim

@[expose] public section

set_option maxRecDepth 16384

noncomputable section

open Idealize.ShloMosaic Idealize.ShloMosaic.TcCoe Idealize.SL.Sem

namespace Cert.KernelIdeal.Value

open Cert.KernelIdeal Cert.KernelIdeal.Gen Cert.Nms

variable (m : (ℓ : Loc nD τ sig) → Buf (Elt Ideal) ℓ) (ρ : Dev nD → PrngReg)

/-- Folds of the maximum over equal families are equal. -/
theorem fold_max_congr {n : ℕ} {f g : Fin n → EReal} (h : ∀ k, f k = g k) :
    Finset.univ.fold max ⊥ f = Finset.univ.fold max ⊥ g := congrArg (fun f => Finset.univ.fold max ⊥ f) (funext h)

/-- The index maps of the class-maximum region's windows. -/
theorem maps0 : ∀ t : Fin cfg0.N, win0_0.index t = ![0, t.val, 0] ∧ win0_1.index t = ![t.val, 0, 0] :=
  (by decide +kernel : ∀ t : Fin grid0.N, _)

/-- The largest class logit of each anchor of a batch row. -/
def best (X : FVec Ideal S16x8400x80 .f32) (b : Fin 16) (l : Fin 8400) : EReal :=
  Finset.univ.fold max ⊥ fun k : Fin 80 => X (ix3 b l k)

/-- The first region's array, chunk by chunk. -/
def chunks (X : FVec Ideal S16x8400x80 .f32) : FVec Ideal S21x16x400 .f32 := fun i =>
  best X ⟨(i 1).val, (i 1).isLt⟩ ⟨(i 0).val * 400 + (i 2).val, by have h0 : (i 0).val < 21 := (i 0).isLt; have h2 : (i 2).val < 400 := (i 2).isLt; omega⟩

/-- The class-maximum region leaves the chunked class maxima. -/
theorem chunks_final (c : Dev nD) :
    (dat0 (V0 m ρ) c).arrAt 1 cfg0.N = chunks (m ((c : Thread nD τ).loc main_arg1)) := by
  refine (dat0 (V0 m ρ) c).arrAt_eq_of_covers 1 _ (by decide +kernel) fun t _ y => ?_
  blk_simp
  rw [after0_1]; frame_out
  pointwise [k0_pay1]
  rw [ofBits_minus_inf]
  unfold chunks best
  refine fold_max_congr fun k => ?_
  blk_point [iblk0, maps0 t]

/-- The second region's operand: the class maxima, batch row by anchor. -/
def scores (X : FVec Ideal S16x8400x80 .f32) : FVec Ideal S16x8400 .f32 := fun i =>
  best X ⟨(i 0).val, (i 0).isLt⟩ ⟨(i 1).val, (i 1).isLt⟩

/-- The operand the second region finds: the first region's chunks laid side by side. -/
theorem operand1 (c : Dev nD) : V2 m ρ c main_v2 = scores (m ((c : Thread nD τ).loc main_arg1)) := by
  have h : W1 m ρ c (Proc.devRef .tc main_v0) = chunks (m ((c : Thread nD τ).loc main_arg1)) :=
    (W1_arr m ρ c 1).trans (chunks_final m ρ c)
  show StableHlo.after hostOps1 (W1 m ρ c) (Proc.devRef .tc main_v2) = _
  after_results
  rw [h]
  funext i
  idx_vars i
  pointwise [chunks, scores]
  exact congrArg (best _ i0) (Fin.ext (by show i1.val / 400 * 400 + i1.val % 400 = i1.val; omega))

/-- The anchor of rank `k` in a batch row. -/
def pick (X : FVec Ideal S16x8400x80 .f32) (b : Fin 16) (k : Fin 300) : Fin 8400 := rank (best X b) ⟨k.val, by omega⟩

/-- The score of rank `k` in a batch row. -/
def top (X : FVec Ideal S16x8400x80 .f32) (b : Fin 16) (k : Fin 300) : EReal := Ideal.logistic (best X b (pick X b k))

/-- The class maxima are above minus infinity when the logits are. -/
theorem best_pos (X : FVec Ideal S16x8400x80 .f32) (hX : ∀ i, ⊥ < X i) (b : Fin 16) (l : Fin 8400) : ⊥ < best X b l :=
  (Finset.lt_fold_max _).mpr (.inr ⟨0, Finset.mem_univ _, hX _⟩)

/-- A row of the class maxima. -/
theorem row_scores (X : FVec Ideal S16x8400x80 .f32) (b : Fin 16) : row (scores X) b = best X b := rfl

/-- The selection region's index maps. -/
theorem maps1 : ∀ t : Fin cfg1.N, win1_0.index t = ![0, 0] ∧ win1_1.index t = ![0, 0] ∧ win1_2.index t = ![0, 0] :=
  (by decide +kernel : ∀ t : Fin grid1.N, _)

/-- The selection region's block is its whole operand. -/
theorem block1 (c : Dev nD) (t : Fin cfg1.N) : iblk1 (V2 m ρ) c 0 t = scores (m ((c : Thread nD τ).loc main_arg1)) := by
  rw [← operand1 m ρ c]
  funext i
  blk_point [iblk1, maps1 t]

/-- The selection region leaves the ranked scores. -/
theorem vals_final (c : Dev nD) (hX : ∀ i, (⊥ : EReal) < m ((c : Thread nD τ).loc main_arg1) i) :
    (dat1 (V2 m ρ) c).arrAt 1 cfg1.N = fun i => top (m ((c : Thread nD τ).loc main_arg1)) ⟨(i 0).val, (i 0).isLt⟩ ⟨(i 1).val, (i 1).isLt⟩ := by
  refine (dat1 (V2 m ρ) c).arrAt_eq_of_covers 1 _ (by decide +kernel) fun t _ y => ?_
  blk_simp
  rw [after1_1]
  idx_vars y
  refine (outs_vals (V2 m ρ) c t _ (block1 m ρ c t) (fun b l => best_pos _ hX b l) _ _).trans ?_
  rw [row_scores, sub_eq_add_neg, zero_add]
  simp only [maps1 t, top, pick, Ideal.logistic, Matrix.cons_val_zero, Matrix.cons_val_one, zero_mul, zero_add]

/-- The selection region leaves the ranked positions. -/
theorem poss_final (c : Dev nD) (hX : ∀ i, (⊥ : EReal) < m ((c : Thread nD τ).loc main_arg1) i) :
    (dat1 (V2 m ρ) c).arrAt 2 cfg1.N =
      fun i => BitVec.ofNat 32 (pick (m ((c : Thread nD τ).loc main_arg1)) ⟨(i 0).val, (i 0).isLt⟩ ⟨(i 1).val, (i 1).isLt⟩).val := by
  refine (dat1 (V2 m ρ) c).arrAt_eq_of_covers 2 _ (by decide +kernel) fun t _ y => ?_
  blk_simp
  rw [after1_2]
  idx_vars y
  refine (outs_poss (V2 m ρ) c t _ (block1 m ρ c t) (fun b l => best_pos _ hX b l) _ _).trans ?_
  rw [row_scores]
  simp only [maps1 t, pick, Matrix.cons_val_zero, Matrix.cons_val_one, zero_mul, zero_add]

/-- The last region's positions operand. -/
theorem operand2_pos (c : Dev nD) (hX : ∀ i, (⊥ : EReal) < m ((c : Thread nD τ).loc main_arg1) i) (b : Fin 16) (k : Fin 300) :
    V4 m ρ c main_v4 (ix3 b 0 k) = BitVec.ofNat 32 (pick (m ((c : Thread nD τ).loc main_arg1)) b k).val := by
  have h : W3 m ρ c (Proc.devRef .tc main_v3_1) = _ := (W3_arr m ρ c 2).trans (poss_final m ρ c hX)
  show StableHlo.after hostOps2 (W3 m ρ c) (Proc.devRef .tc main_v4) _ = _
  after_results
  rw [h]
  pointwise

/-- The last region's scores operand. -/
theorem operand2_val (c : Dev nD) (hX : ∀ i, (⊥ : EReal) < m ((c : Thread nD τ).loc main_arg1) i) (b : Fin 16) (k : Fin 300) :
    V4 m ρ c main_v5 (ix3 b 0 k) = top (m ((c : Thread nD τ).loc main_arg1)) b k := by
  have h : W3 m ρ c (Proc.devRef .tc main_v3_0) = _ := (W3_arr m ρ c 1).trans (vals_final m ρ c hX)
  show StableHlo.after hostOps2 (W3 m ρ c) (Proc.devRef .tc main_v5) _ = _
  after_results
  rw [h]
  pointwise

/-- The last region's projection operand. -/
theorem operand2_proj (c : Dev nD) (k : Fin 17) :
    V4 m ρ c main_v6 (ix2 0 k) = m ((c : Thread nD τ).loc main_arg4) (ix1 k) := by
  have h : W3 m ρ c (Proc.devRef .tc main_arg4) = _ := W3_args m ρ c main_arg4 (by decide)
  show StableHlo.after hostOps2 (W3 m ρ c) (Proc.devRef .tc main_v6) _ = _
  after_results
  rw [h]
  pointwise

end Cert.KernelIdeal.Value

end
-- ==== Proof.Gather.lean ====
/- The last kernel's gathers: four one-hot products, one for each quarter of the anchors, add up to the rows the
   positions name. -/
module

public import proofs.«01_k».proof.Proof.Select

@[expose] public section

set_option maxRecDepth 16384

noncomputable section

open Idealize.ShloMosaic Idealize.ShloMosaic.TcCoe Idealize.SL.Sem

namespace Cert.Nms

/-- The weight a one-hot row gives a lane: one where the lane's position, counted from `o`, is the word's, else zero. -/
def hot (o w : BitVec 32) (x : ℕ) : EReal :=
  FloatOps.sitofp (F := Ideal) .f32 (BitVec.setWidth 32 (IntOp.cmpi .eq (IntOp.addi (BitVec.ofNat 32 x) o) w))

/-- The weight at small naturals. -/
theorem hot_eq (o x l : ℕ) (ho : o + x < 2 ^ 32) (hl : l < 2 ^ 32) :
    hot (BitVec.ofNat 32 o) (BitVec.ofNat 32 l) x = if o + x = l then 1 else 0 := by
  have e : IntOp.addi (BitVec.ofNat 32 x) (BitVec.ofNat 32 o) = BitVec.ofNat 32 (o + x) := by
    show BitVec.ofNat 32 x + BitVec.ofNat 32 o = _
    rw [← BitVec.ofNat_add, Nat.add_comm]
  unfold hot IntOp.cmpi
  rw [e]
  by_cases h : o + x = l
  · rw [if_pos h, h]
    simp [FloatOps.sitofp]
  · rw [if_neg h]
    have := mt (ofNat_eq_iff _ _ ho hl).mp h
    simp only [beq_eq_false_iff_ne.mpr this]
    simp [FloatOps.sitofp]

/-- One quarter's product: the row the word names if it lies in the quarter, else zero. -/
theorem quarter (f : Fin 8400 → EReal) (o : ℕ) (ho : o + 2100 ≤ 8400) (l : Fin 8400) :
    ∑ x : Fin 2100, hot (BitVec.ofNat 32 o) (BitVec.ofNat 32 l.val) x.val * f ⟨o + x.val, by omega⟩ =
      if o ≤ l.val ∧ l.val < o + 2100 then f l else 0 := by
  have hl := l.isLt
  by_cases h : o ≤ l.val ∧ l.val < o + 2100
  · rw [if_pos h, Finset.sum_eq_single (⟨l.val - o, by omega⟩ : Fin 2100)]
    · rw [hot_eq _ _ _ (by simp only []; omega) (by omega), if_pos (by simp only []; omega), one_mul]
      exact congrArg f (Fin.ext (by simp only []; omega))
    · intro x _ hx
      have hx' : x.val ≠ l.val - o := fun e => hx (Fin.ext e)
      rw [hot_eq _ _ _ (by omega) (by omega), if_neg (by omega), zero_mul]
    · exact fun hx => absurd (Finset.mem_univ _) hx
  · rw [if_neg h]
    refine Finset.sum_eq_zero fun x _ => ?_
    rw [hot_eq _ _ _ (by omega) (by omega), if_neg (by omega), zero_mul]

/-- The four quarters' products add up to the row the word names. -/
theorem quarters (f : Fin 8400 → EReal) (l : Fin 8400) (w : BitVec 32) (hw : w = BitVec.ofNat 32 l.val) :
    ∑ x : Fin 2100, hot 0#32 w x.val * f ⟨x.val, by omega⟩ + ∑ x : Fin 2100, hot 2100#32 w x.val * f ⟨2100 + x.val, by omega⟩
      + ∑ x : Fin 2100, hot 4200#32 w x.val * f ⟨4200 + x.val, by omega⟩
      + ∑ x : Fin 2100, hot 6300#32 w x.val * f ⟨6300 + x.val, by omega⟩ = f l := by
  subst hw
  have hl := l.isLt
  have q0 := quarter f 0 (by omega) l
  simp only [Nat.zero_add] at q0
  have q1 := quarter f 2100 (by omega) l
  have q2 := quarter f 4200 (by omega) l
  have q3 := quarter f 6300 (by omega) l
  rw [q0, q1, q2, q3]
  by_cases a : l.val < 2100
  · rw [if_pos (by omega), if_neg (by omega), if_neg (by omega), if_neg (by omega)]; simp only [add_zero]
  by_cases b : l.val < 4200
  · rw [if_neg (by omega), if_pos (by omega), if_neg (by omega), if_neg (by omega)]; simp only [add_zero, zero_add]
  by_cases d : l.val < 6300
  · rw [if_neg (by omega), if_neg (by omega), if_pos (by omega), if_neg (by omega)]; simp only [add_zero, zero_add]
  · rw [if_neg (by omega), if_neg (by omega), if_neg (by omega), if_pos (by omega)]; simp only [zero_add]

end Cert.Nms

namespace Cert.KernelIdeal.Value

open Cert.KernelIdeal Cert.KernelIdeal.Gen Cert.Nms

variable (x0 : FVec Ideal S1x8400x68 .f32) (x1 : IVec S1x1x300 32) (x2 : FVec Ideal S1x1x300 .f32)
  (x3 : FVec Ideal S8400x2 .f32) (x4 : FVec Ideal S8400x1 .f32) (x5 : FVec Ideal S1x17 .f32)

/-- The gathered box logits. -/
theorem gather_pred (l : Fin 300 → Fin 8400) (h1 : ∀ k, x1 (ix3 0 0 k) = BitVec.ofNat 32 (l k).val) (i : Fin 300) (j : Fin 68) :
    k2_pay29 x0 x1 x2 x3 x4 x5 (ix2 i j) = x0 (ix3 0 (l i) j) := by
  pointwise [k2_pay29, k2_pay11, k2_pay7, k2_pay27, k2_pay2, k2_pay3, k2_pay6, k2_pay8, k2_pay10, r2_0, r2_1, r2_4, r2_7, r2_10]
  exact quarters (fun l => x0 (ix3 0 l j)) (l i) _ (h1 i)

/-- The gathered anchor points. -/
theorem gather_anchor (l : Fin 300 → Fin 8400) (h1 : ∀ k, x1 (ix3 0 0 k) = BitVec.ofNat 32 (l k).val) (i : Fin 300) (j : Fin 2) :
    k2_pay30 x0 x1 x2 x3 x4 x5 (ix2 i j) = x3 (ix2 (l i) j) := by
  pointwise [k2_pay30, k2_pay12, k2_pay4, k2_pay28, k2_pay27, k2_pay2, k2_pay3, k2_pay6, k2_pay8, k2_pay10, r2_0, r2_2, r2_5, r2_8, r2_11]
  exact quarters (fun l => x3 (ix2 l j)) (l i) _ (h1 i)

/-- The gathered strides. -/
theorem gather_stride (l : Fin 300 → Fin 8400) (h1 : ∀ k, x1 (ix3 0 0 k) = BitVec.ofNat 32 (l k).val) (i : Fin 300) :
    k2_pay31 x0 x1 x2 x3 x4 x5 (ix2 i 0) = x4 (ix2 (l i) 0) := by
  pointwise [k2_pay31, k2_pay13, k2_pay9, k2_pay5, k2_pay28, k2_pay27, k2_pay2, k2_pay3, k2_pay6, k2_pay8, k2_pay10, r2_0, r2_3, r2_6, r2_9, r2_12]
  exact quarters (fun l => x4 (ix2 l 0)) (l i) _ (h1 i)

end Cert.KernelIdeal.Value

end
-- ==== Proof.Boxes.lean ====
/- The decoded boxes and their suppression, as functions of extended reals. -/
module

public import proofs.«01_k».proof.Proof.Rank
public import Idealize.ShloMosaic.PureOps.Ideal

@[expose] public section

noncomputable section

open Idealize.ShloMosaic

namespace Cert.Nms

/-- The largest of a side's 17 bin logits. -/
def peak (d : Fin 17 → EReal) : EReal := Finset.univ.fold max ⊥ d

/-- A side's expected bin value: the exponential weights' sum of the projected bins over the weights' sum. -/
def mean (d p : Fin 17 → EReal) : EReal :=
  Ideal.div (∑ k, Ideal.exp (d k - peak d) * p k) (∑ k, Ideal.exp (d k - peak d))

/-- A box's corners from its four sides' bin logits, its anchor point and its stride. -/
def corner (d : Fin 4 → Fin 17 → EReal) (p : Fin 17 → EReal) (a : Fin 2 → EReal) (s : EReal) : Fin 4 → EReal :=
  ![(a 0 - mean (d 0) p) * s, (a 1 - mean (d 1) p) * s, (a 0 + mean (d 2) p) * s, (a 1 + mean (d 3) p) * s]

/-- A box's area. -/
def area (c : Fin 4 → EReal) : EReal := (c 2 - c 0) * (c 3 - c 1)

/-- Two boxes' common area. -/
def common (c c' : Fin 4 → EReal) : EReal :=
  max 0 (min (c 2) (c' 2) - max (c 0) (c' 0)) * max 0 (min (c 3) (c' 3) - max (c 1) (c' 1))

/-- Two boxes' common area over their joint area. -/
def overlap (c c' : Fin 4 → EReal) : EReal :=
  Ideal.div (common c c') (area c + area c' - common c c' + Ideal.ofBits .f32 0x2EDBE6FF#32)

/-- The largest overlap of box `j` with an earlier one (zero where the box is not earlier). -/
def clash (c : Fin 300 → Fin 4 → EReal) (j : Fin 300) : EReal :=
  Finset.univ.fold max ⊥ fun i : Fin 300 => if i.val < j.val then overlap (c i) (c j) else 0

/-- A score, kept where the box's largest overlap is at most the threshold. -/
def kept (c : Fin 300 → Fin 4 → EReal) (v : EReal) (j : Fin 300) : EReal :=
  v * if clash c j ≤ Ideal.ofBits .f32 0x3F333333#32 then 1 else 0

end Cert.Nms

end
-- ==== Proof.Decode.lean ====
/- The last kernel's block: the gathered rows decoded to boxes, their overlaps, and the scores kept. -/
module

public import proofs.«01_k».proof.Proof.Gather
public import proofs.«01_k».proof.Proof.Boxes

@[expose] public section

set_option maxRecDepth 16384

noncomputable section

open Idealize.ShloMosaic Idealize.ShloMosaic.TcCoe Idealize.SL.Sem

namespace Cert.Nms

/-- A select on the order of two small naturals' words. -/
theorem select_ofNat_lt {α : Type} (a b : ℕ) (ha : a < 2 ^ 31) (hb : b < 2 ^ 31) (x y : α) :
    Scalar.select (IntOp.cmpi .slt (BitVec.ofNat 32 a) (BitVec.ofNat 32 b)) x y = if a < b then x else y := by
  unfold Scalar.select IntOp.cmpi
  have e : (BitVec.ofNat 32 a).slt (BitVec.ofNat 32 b) = decide (a < b) := by
    simp only [BitVec.slt, toInt_ofNat_small a ha, toInt_ofNat_small b hb, Int.ofNat_lt]
  simp only [e]
  by_cases h : a < b
  · simp [h]
  · simp [h]

/-- A truth value as a number. -/
theorem sitofp_ofBool (q : Prop) [Decidable q] :
    FloatOps.sitofp (F := Ideal) .f32 (BitVec.setWidth 32 (BitVec.ofBool (decide q))) = if q then (1 : EReal) else 0 := by
  by_cases h : q <;> simp [h, FloatOps.sitofp]

end Cert.Nms

namespace Cert.KernelIdeal.Value

open Cert.KernelIdeal Cert.KernelIdeal.Gen Cert.Nms

/-- Side `s` of row `i` of the gathered bin logits. -/
def side (v : FVec Ideal S300x68 .f32) (i : Fin 300) (s : Fin 4) (k : Fin 17) : EReal := v (ix2 i ⟨17 * s.val + k.val, by omega⟩)

/-- The box of row `i` of the gathered arrays. -/
def boxOf (v : FVec Ideal S300x68 .f32) (a : FVec Ideal S300x2 .f32) (s : FVec Ideal S300x1 .f32) (p : FVec Ideal S1x17 .f32)
    (i : Fin 300) : Fin 4 → EReal :=
  corner (side v i) (fun k => p (ix2 0 k)) (fun h => a (ix2 i h)) (s (ix2 i 0))

variable (v : FVec Ideal S300x68 .f32) (a : FVec Ideal S300x2 .f32) (s : FVec Ideal S300x1 .f32) (p : FVec Ideal S1x17 .f32)

/-- A bin logit by its lane. -/
theorem side_lane (i : Fin 300) (f : Fin 4) (x : Fin 17) (n : ℕ) (hn : n < 68) (h : n = 17 * f.val + x.val) :
    v (ix2 i ⟨n, hn⟩) = side v i f x := by subst h; rfl

/-- The left edge. -/
theorem edge0 (i : Fin 300) : k2_pay22 a s (k2_pay15 v p) (ix2 i 0) = boxOf v a s p i 0 := by
  pointwise [k2_pay22, k2_pay20, k2_pay15, k2_pay14]
  have h (x : Fin 17) := side_lane v i 0 x x.val (by omega) (by simp)
  simp only [ofBits_minus_inf, h]
  rfl

/-- The top edge. -/
theorem edge1 (i : Fin 300) : k2_pay23 a s (k2_pay16 v p) (ix2 i 0) = boxOf v a s p i 1 := by
  pointwise [k2_pay23, k2_pay21, k2_pay16, k2_pay14]
  have h (x : Fin 17) := side_lane v i 1 x (17 + x.val) (by omega) (by simp)
  simp only [ofBits_minus_inf, h]
  rfl

/-- The right edge. -/
theorem edge2 (i : Fin 300) : k2_pay24 a s (k2_pay17 v p) (ix2 i 0) = boxOf v a s p i 2 := by
  pointwise [k2_pay24, k2_pay20, k2_pay17, k2_pay14]
  have h (x : Fin 17) := side_lane v i 2 x (34 + x.val) (by omega) (by simp)
  simp only [ofBits_minus_inf, h]
  rfl

/-- The bottom edge. -/
theorem edge3 (i : Fin 300) : k2_pay25 a s (k2_pay14 p) (k2_pay18 v) (k2_pay19 v) (ix2 i 0) = boxOf v a s p i 3 := by
  pointwise [k2_pay25, k2_pay21, k2_pay18, k2_pay19, k2_pay14]
  have h (x : Fin 17) := side_lane v i 3 x (51 + x.val) (by omega) (by simp)
  simp only [ofBits_minus_inf, h]
  rfl

/-- The overlaps of the boxes. -/
theorem overlap_at (i j : Fin 300) :
    k2_pay26 a s (k2_pay14 p) (k2_pay15 v p) (k2_pay16 v p) (k2_pay17 v p) (k2_pay18 v) (k2_pay19 v) (ix2 i j) =
      overlap (boxOf v a s p i) (boxOf v a s p j) := by
  pointwise [k2_pay26]
  simp only [edge0, edge1, edge2, edge3]
  rfl

/-- The stored block's columns 0 to 3 are the edges handed over, column 4 the scores kept. -/
theorem stored_at (e0 e1 e2 e3 : FVec Ideal S300x1 .f32) (o : FVec Ideal S300x300 .f32) (w : FVec Ideal S1x1x300 .f32)
    (c : Fin 300 → Fin 4 → EReal) (h0 : ∀ i, e0 (ix2 i 0) = c i 0) (h1 : ∀ i, e1 (ix2 i 0) = c i 1)
    (h2 : ∀ i, e2 (ix2 i 0) = c i 2) (h3 : ∀ i, e3 (ix2 i 0) = c i 3)
    (ho : ∀ i j, o (ix2 i j) = overlap (c i) (c j)) (i : Fin 300) (f : Fin 5) :
    k2_pay1 e0 e1 e2 e3 o w (ix3 0 i f) = if h : f.val < 4 then c i ⟨f.val, h⟩ else kept c (w (ix3 0 0 i)) i := by
  pointwise [k2_pay1]
  rcases f with ⟨f, hf⟩
  interval_cases f
  · exact h0 i
  · exact h1 i
  · exact h2 i
  · exact h3 i
  · simp only [sitofp_ofBool, ofBits_minus_inf, ho]
    rw [dif_neg (by omega), dif_neg (by omega), dif_neg (by omega), dif_neg (by omega), dif_neg (by omega)]
    have e (x : Fin 300) := select_ofNat_lt (α := EReal) x.val i.val (by omega) (by omega) (overlap (c x) (c i)) 0
    simp only [e]
    rfl

variable (x0 : FVec Ideal S1x8400x68 .f32) (x1 : IVec S1x1x300 32) (x2 : FVec Ideal S1x1x300 .f32)
  (x3 : FVec Ideal S8400x2 .f32) (x4 : FVec Ideal S8400x1 .f32) (x5 : FVec Ideal S1x17 .f32)

/-- The box of anchor `l` of a batch row's block. -/
def blockBox (l : Fin 8400) : Fin 4 → EReal :=
  corner (fun s k => x0 (ix3 0 l ⟨17 * s.val + k.val, by omega⟩)) (fun k => x5 (ix2 0 k)) (fun h => x3 (ix2 l h)) (x4 (ix2 l 0))

/-- The block the last kernel stores: each picked anchor's box and its score, kept or zeroed. -/
theorem block_at (l : Fin 300 → Fin 8400) (hl : ∀ k, x1 (ix3 0 0 k) = BitVec.ofNat 32 (l k).val) (i : Fin 300) (f : Fin 5) :
    out2_6 (F := Ideal) x0 x1 x2 x3 x4 x5 (ix3 0 i f) =
      if h : f.val < 4 then blockBox x0 x3 x4 x5 (l i) ⟨f.val, h⟩
      else kept (fun k => blockBox x0 x3 x4 x5 (l k)) (x2 (ix3 0 0 i)) i := by
  have hp : View.ld (Val := Elt Ideal) (e' := .f32) x5 r2_13 = x5 := by
    funext y; idx_vars y; pointwise
    exact congrArg (fun z => x5 (ix2 z y1)) (Subsingleton.elim 0 y0)
  have hb (k : Fin 300) : boxOf (k2_pay29 x0 x1 x2 x3 x4 x5) (k2_pay30 x0 x1 x2 x3 x4 x5) (k2_pay31 x0 x1 x2 x3 x4 x5) x5 k =
      blockBox x0 x3 x4 x5 (l k) := by
    unfold boxOf side blockBox
    simp only [gather_pred x0 x1 x2 x3 x4 x5 l hl, gather_anchor x0 x1 x2 x3 x4 x5 l hl, gather_stride x0 x1 x2 x3 x4 x5 l hl]
  frame_out
  unfold k2_pay37 k2_pay36 k2_pay35 k2_pay34 k2_pay33 k2_pay32
  rw [hp]
  refine stored_at _ _ _ _ _ x2 (fun k => blockBox x0 x3 x4 x5 (l k)) ?_ ?_ ?_ ?_ ?_ i f
  · exact fun k => (edge0 _ _ _ _ k).trans (congrFun (hb k) 0)
  · exact fun k => (edge1 _ _ _ _ k).trans (congrFun (hb k) 1)
  · exact fun k => (edge2 _ _ _ _ k).trans (congrFun (hb k) 2)
  · exact fun k => (edge3 _ _ _ _ k).trans (congrFun (hb k) 3)
  · exact fun k k' => (overlap_at _ _ _ _ k k').trans (congrArg₂ overlap (hb k) (hb k'))

end Cert.KernelIdeal.Value

end
-- ==== Proof.Result.lean ====
/- The last kernel's result as an array: the picked anchors' boxes and kept scores. -/
module

public import proofs.«01_k».proof.Proof.Scores
public import proofs.«01_k».proof.Proof.Decode

@[expose] public section

set_option maxRecDepth 16384

noncomputable section

open Idealize.ShloMosaic Idealize.ShloMosaic.TcCoe Idealize.SL.Sem

namespace Cert.KernelIdeal.Value

open Cert.KernelIdeal Cert.KernelIdeal.Gen Cert.Nms

/-- The box of anchor `l` of batch row `b`. -/
def box (X : FVec Ideal S16x8400x68 .f32) (A : FVec Ideal S8400x2 .f32) (S : FVec Ideal S8400x1 .f32) (P : FVec Ideal S17 .f32)
    (b : Fin 16) (l : Fin 8400) : Fin 4 → EReal :=
  corner (fun s k => X (ix3 b l ⟨17 * s.val + k.val, by omega⟩)) (fun k => P (ix1 k)) (fun h => A (ix2 l h)) (S (ix2 l 0))

/-- Entry `f` of row `k` of batch row `b`: the picked anchor's box, and last its score, kept or zeroed. -/
def entry (X : FVec Ideal S16x8400x68 .f32) (Y : FVec Ideal S16x8400x80 .f32) (A : FVec Ideal S8400x2 .f32)
    (S : FVec Ideal S8400x1 .f32) (P : FVec Ideal S17 .f32) (b : Fin 16) (k : Fin 300) (f : Fin 5) : EReal :=
  if h : f.val < 4 then box X A S P b (pick Y b k) ⟨f.val, h⟩
  else kept (fun j => box X A S P b (pick Y b j)) (top Y b k) k

/-- The result array. -/
def result (X : FVec Ideal S16x8400x68 .f32) (Y : FVec Ideal S16x8400x80 .f32) (A : FVec Ideal S8400x2 .f32)
    (S : FVec Ideal S8400x1 .f32) (P : FVec Ideal S17 .f32) : FVec Ideal S16x300x5 .f32 := fun i =>
  entry X Y A S P ⟨(i 0).val, (i 0).isLt⟩ ⟨(i 1).val, (i 1).isLt⟩ ⟨(i 2).val, (i 2).isLt⟩

variable (m : (ℓ : Loc nD τ sig) → Buf (Elt Ideal) ℓ) (ρ : Dev nD → PrngReg)

/-- The result array of the launch's arguments on core `c`. -/
abbrev resultOf (c : Dev nD) : FVec Ideal S16x300x5 .f32 :=
  result (m ((c : Thread nD τ).loc main_arg0)) (m ((c : Thread nD τ).loc main_arg1)) (m ((c : Thread nD τ).loc main_arg2))
    (m ((c : Thread nD τ).loc main_arg3)) (m ((c : Thread nD τ).loc main_arg4))

/-- The index maps of the last region's windows. -/
theorem maps2 : ∀ t : Fin cfg2.N, win2_0.index t = ![t.val, 0, 0] ∧ win2_1.index t = ![t.val, 0, 0] ∧ win2_2.index t = ![t.val, 0, 0]
    ∧ win2_3.index t = ![0, 0] ∧ win2_4.index t = ![0, 0] ∧ win2_5.index t = ![0, 0] ∧ win2_6.index t = ![t.val, 0, 0] :=
  (by decide +kernel : ∀ t : Fin grid2.N, _)

/-- A point of the last region is a batch row. -/
def rowOf (t : Fin cfg2.N) : Fin 16 := ⟨t.val, t.isLt⟩

variable (c : Dev nD) (t : Fin cfg2.N)

/-- The bin logits' block is its batch row. -/
theorem block2_pred (l : Fin 8400) (j : Fin 68) :
    iblk2 (V4 m ρ) c 0 t (ix3 0 l j) = m ((c : Thread nD τ).loc main_arg0) (ix3 (rowOf t) l j) := by
  rw [← W4_args m ρ c main_arg0 (by decide)]
  blk_point [iblk2, maps2 t]
  exact Nat.add_zero _

/-- The positions' block is its batch row's ranked anchors. -/
theorem block2_pos (hX : ∀ i, (⊥ : EReal) < m ((c : Thread nD τ).loc main_arg1) i) (k : Fin 300) :
    iblk2 (V4 m ρ) c 1 t (ix3 0 0 k) = BitVec.ofNat 32 (pick (m ((c : Thread nD τ).loc main_arg1)) (rowOf t) k).val := by
  rw [← operand2_pos m ρ c hX]
  blk_point [iblk2, maps2 t]
  exact Nat.add_zero _

/-- The scores' block is its batch row's ranked scores. -/
theorem block2_val (hX : ∀ i, (⊥ : EReal) < m ((c : Thread nD τ).loc main_arg1) i) (k : Fin 300) :
    iblk2 (V4 m ρ) c 2 t (ix3 0 0 k) = top (m ((c : Thread nD τ).loc main_arg1)) (rowOf t) k := by
  rw [← operand2_val m ρ c hX]
  blk_point [iblk2, maps2 t]
  exact Nat.add_zero _

/-- The anchor points' block is the whole array. -/
theorem block2_anchor (l : Fin 8400) (h : Fin 2) :
    iblk2 (V4 m ρ) c 3 t (ix2 l h) = m ((c : Thread nD τ).loc main_arg2) (ix2 l h) := by
  rw [← W4_args m ρ c main_arg2 (by decide)]
  blk_point [iblk2, maps2 t]

/-- The strides' block is the whole array. -/
theorem block2_stride (l : Fin 8400) :
    iblk2 (V4 m ρ) c 4 t (ix2 l 0) = m ((c : Thread nD τ).loc main_arg3) (ix2 l 0) := by
  rw [← W4_args m ρ c main_arg3 (by decide)]
  blk_point [iblk2, maps2 t]

/-- The projection's block is the whole array. -/
theorem block2_proj (k : Fin 17) :
    iblk2 (V4 m ρ) c 5 t (ix2 0 k) = m ((c : Thread nD τ).loc main_arg4) (ix1 k) := by
  rw [← operand2_proj m ρ c]
  blk_point [iblk2, maps2 t]

/-- The block's box of an anchor is the batch row's. -/
theorem block2_box (l : Fin 8400) :
    blockBox (iblk2 (V4 m ρ) c 0 t) (iblk2 (V4 m ρ) c 3 t) (iblk2 (V4 m ρ) c 4 t) (iblk2 (V4 m ρ) c 5 t) l =
      box (m ((c : Thread nD τ).loc main_arg0)) (m ((c : Thread nD τ).loc main_arg2)) (m ((c : Thread nD τ).loc main_arg3))
        (m ((c : Thread nD τ).loc main_arg4)) (rowOf t) l := by
  unfold blockBox box
  rw [funext fun s => funext fun k => block2_pred m ρ c t l ⟨17 * Fin.val s + Fin.val k, _⟩,
    funext fun k => block2_proj m ρ c t k, funext fun h => block2_anchor m ρ c t l h, block2_stride m ρ c t l]

/-- The last region leaves the result array. -/
theorem result_final (hX : ∀ i, (⊥ : EReal) < m ((c : Thread nD τ).loc main_arg1) i) :
    (dat2 (V4 m ρ) c).arrAt 6 cfg2.N = resultOf m c := by
  unfold resultOf result
  refine (dat2 (V4 m ρ) c).arrAt_eq_of_covers 6 _ (by decide +kernel) fun t _ y => ?_
  blk_simp
  rw [after2_6]
  idx_vars y
  obtain rfl : y0 = 0 := Subsingleton.elim _ _
  refine (block_at _ _ _ _ _ _ (fun k => pick _ (rowOf t) k) (block2_pos m ρ c t hX) y1 y2).trans ?_
  rw [block2_val m ρ c t hX, block2_box, funext fun k => block2_box m ρ c t (pick (m ((c : Thread nD τ).loc main_arg1)) (rowOf t) k)]
  refine (show _ = entry (m ((c : Thread nD τ).loc main_arg0)) (m ((c : Thread nD τ).loc main_arg1)) (m ((c : Thread nD τ).loc main_arg2))
    (m ((c : Thread nD τ).loc main_arg3)) (m ((c : Thread nD τ).loc main_arg4)) (rowOf t) y1 y2 from rfl).trans ?_
  simp only [maps2 t, rowOf, Matrix.cons_val_zero, Matrix.cons_val_one, Matrix.cons_val_two, Matrix.tail_cons, Matrix.head_cons,
    zero_mul, zero_add]

end Cert.KernelIdeal.Value

end
-- ==== Proof.Launch.lean ====
/- The kernel's run: every run ends with the result array. -/
module

public import proofs.«01_k».proof.Proof.Result

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Value

open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch's implicit arguments are found by unifying its conclusion with the statement's
set_option backward.isDefEq.respectTransparency.types false in
/-- Every run of the kernel ends with the result array in its result and its arguments unchanged. -/
theorem run (hX : ∀ (c : Dev nD) i, (⊥ : EReal) < m ((c : Thread nD τ).loc main_arg1) i) :
    θ_run (defs (F := Ideal)) (onTc (τ := τ) (main (F := Ideal))) ⟨m, fun _ => 0, ρ⟩ (fun r => ∀ c : Dev nD,
      r.2.mem ((c.tc : Thread nD τ).loc main_v7) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v7 (by decide))).trans ((W5_arr m ρ c 6).trans (result_final m ρ c (hX c))),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Value

end
-- ==== Proof.Softmax.lean ====
/- Two facts about extended reals: a quotient of weights taken before or after the weighted sum, and the logistic
   function keeping order. -/
module

public import proofs.«01_k».proof.Proof.Boxes
public import Idealize.ShloMosaic.PureOps.Ideal.Laws

@[expose] public section

noncomputable section

open Idealize.ShloMosaic

namespace Cert.Nms

/-- Multiplication by a real that is not negative distributes over a sum of extended reals. -/
theorem sum_mul_real {n : ℕ} (f : Fin n → EReal) (c : ℝ) (hc : 0 ≤ c) : (∑ k, f k) * (c : EReal) = ∑ k, f k * (c : EReal) := by
  induction n with
  | zero => simp
  | succ n ih =>
    rw [Fin.sum_univ_castSucc, Fin.sum_univ_castSucc,
      EReal.right_distrib_of_nonneg_of_ne_top (by exact_mod_cast hc) (EReal.coe_ne_top c), ih]

/-- The largest of finitely many extended reals, at least one, is one of them. -/
theorem fold_max_mem {n : ℕ} [NeZero n] (f : Fin n → EReal) : ∃ k, Finset.univ.fold max ⊥ f = f k := by
  have hle : ∀ k, f k ≤ Finset.univ.fold max ⊥ f := fun k => (Finset.le_fold_max _).mpr (.inr ⟨k, Finset.mem_univ k, le_rfl⟩)
  rcases (Finset.le_fold_max (Finset.univ.fold max ⊥ f)).mp le_rfl with h | ⟨k, -, h⟩
  · exact ⟨0, le_antisymm (h.trans bot_le) (hle 0)⟩
  · exact ⟨k, le_antisymm h (hle k)⟩

/-- A strictly monotone function of the largest is the largest of the function's values. -/
theorem fold_max_mono {n : ℕ} [NeZero n] (g : EReal → EReal) (hg : Monotone g) (f : Fin n → EReal) :
    (Finset.univ.fold max ⊥ fun k => g (f k)) = g (Finset.univ.fold max ⊥ f) := by
  apply le_antisymm
  · exact (Finset.fold_max_le _).mpr ⟨bot_le, fun k _ => hg ((Finset.le_fold_max _).mpr (.inr ⟨k, Finset.mem_univ k, le_rfl⟩))⟩
  · obtain ⟨k, hk⟩ := fold_max_mem f
    rw [hk]
    exact (Finset.le_fold_max _).mpr (.inr ⟨k, Finset.mem_univ k, le_rfl⟩)

/-- With finite bin logits the expected bin value is the sum of the projected bins, each times its softmax weight. -/
theorem mean_eq (d p : Fin 17 → EReal) (hd : ∀ k, ⊥ < d k ∧ d k < ⊤) :
    ∑ k, Ideal.div (Ideal.exp (d k - peak d)) (∑ k, Ideal.exp (d k - peak d)) * p k = mean d p := by
  obtain ⟨j, hj⟩ := fold_max_mem d
  have hexp : ∀ k, ∃ r : ℝ, 0 < r ∧ Ideal.exp (d k - peak d) = (r : EReal) := fun k => by
    have hp : peak d = d j := hj
    rw [hp]
    lift d k to ℝ using ⟨(hd k).2.ne, (hd k).1.ne'⟩ with a
    lift d j to ℝ using ⟨(hd j).2.ne, (hd j).1.ne'⟩ with b
    exact ⟨Real.exp (a - b), Real.exp_pos _, by rw [← EReal.coe_sub, Ideal.exp_coe]⟩
  choose r hr he using hexp
  have hs : ∑ k, Ideal.exp (d k - peak d) = ((∑ k, r k : ℝ) : EReal) := by
    rw [Finset.sum_congr rfl fun k _ => he k]
    exact (map_sum (⟨⟨Real.toEReal, EReal.coe_zero⟩, EReal.coe_add⟩ : ℝ →+ EReal) r Finset.univ).symm
  have hpos : 0 < ∑ k, r k := Finset.sum_pos (fun k _ => hr k) ⟨0, Finset.mem_univ _⟩
  unfold mean
  rw [hs, Ideal.div_coe hpos.ne', sum_mul_real _ _ (by positivity)]
  refine Finset.sum_congr rfl fun k _ => ?_
  rw [Ideal.div_coe hpos.ne', mul_right_comm]

/-- The logistic function of minus infinity. -/
theorem logistic_bot : Ideal.logistic ⊥ = 0 := by
  have h : (1 : EReal) + ⊤ = ⊤ := EReal.add_top_of_ne_bot (by decide)
  simp [Ideal.logistic, Ideal.div, h]

/-- The logistic function of plus infinity. -/
theorem logistic_top : Ideal.logistic ⊤ = 1 := by
  simp [Ideal.logistic, Ideal.div]

/-- The logistic function is strictly increasing. -/
theorem logistic_strictMono : StrictMono Ideal.logistic := by
  intro x y hxy
  induction x with
  | top => exact absurd hxy (not_lt.mpr le_top)
  | bot =>
    induction y with
    | bot => exact absurd hxy (lt_irrefl _)
    | top => rw [logistic_bot, logistic_top]; exact zero_lt_one
    | coe b =>
      rw [logistic_bot, Ideal.logistic_coe]
      exact_mod_cast inv_pos.mpr (by positivity)
  | coe a =>
    induction y with
    | bot => exact absurd hxy (not_lt.mpr bot_le)
    | top =>
      rw [logistic_top, Ideal.logistic_coe]
      exact_mod_cast inv_lt_one_of_one_lt₀ (by linarith [Real.exp_pos (-a)])
    | coe b =>
      have h : a < b := by exact_mod_cast hxy
      rw [Ideal.logistic_coe, Ideal.logistic_coe]
      have h1 : Real.exp (-b) < Real.exp (-a) := Real.exp_lt_exp.mpr (by linarith)
      exact_mod_cast inv_strictAnti₀ (by positivity) (by linarith)

end Cert.Nms

end
-- ==== Proof.RefBox.lean ====
/- The reference's boxes of every anchor. -/
module

public import proofs.«01_k».proof.Proof.Gen.ReferenceIdeal.Read
public import proofs.«01_k».proof.Proof.Result
public import proofs.«01_k».proof.Proof.Softmax
public import Idealize.ShloMosaic.Lib.Pointwise

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Nms

variable (X : FVec Ideal S16x8400x68 .f32) (A : FVec Ideal S8400x2 .f32)
  (S : FVec Ideal S8400x1 .f32) (P : FVec Ideal S17 .f32)

/-- The bin logits of side `f` of anchor `l`. -/
def bins (b : Fin 16) (l : Fin 8400) (f : Fin 4) (k : Fin 17) : EReal := X (ix3 b l ⟨17 * f.val + k.val, by omega⟩)

/-- The reshaped logits. -/
theorem bins_at (b : Fin 16) (l : Fin 8400) (f : Fin 4) (k : Fin 17) :
    val_main_v0 (F := Ideal) X (ix4 b l f k) = bins X b l f k := by
  pointwise [val_main_v0]
  exact congrArg (fun q : Fin 68 => X (ix3 b l q)) (Fin.ext (by show f.val * 17 + k.val = 17 * f.val + k.val; omega))

/-- The largest logit of a side. -/
theorem peak_at (b : Fin 16) (l : Fin 8400) (f : Fin 4) :
    val_main_v1 (F := Ideal) X (ix3 b l f) = peak (bins X b l f) := by
  unfold val_main_v1
  pointwise [val_main_cst]
  rw [ofBits_minus_inf]
  exact Cert.KernelIdeal.Value.fold_max_congr fun k => bins_at X b l f k

/-- The largest logit of a side, joined with minus infinity and repeated for each bin. -/
theorem spread_at (b : Fin 16) (l : Fin 8400) (f : Fin 4) (k : Fin 17) :
    val_main_v5 (F := Ideal) X (ix4 b l f k) = peak (bins X b l f) := by
  rw [val_main_v5_apply, val_main_v4_apply, val_main_v3_apply]
  have e : idx_main_v4 (idx_main_v5 (ix4 b l f k)) = ix3 b l f := funext fun a => match a with
    | ⟨0, _⟩ => rfl
    | ⟨1, _⟩ => rfl
    | ⟨2, _⟩ => rfl
  rw [e, peak_at]
  have h : val_main_v2 (F := Ideal) (ix3 b l f) = (⊥ : EReal) := ofBits_minus_inf
  rw [h]
  exact max_eq_right bot_le

/-- A logit's exponential weight. -/
theorem weight_at (b : Fin 16) (l : Fin 8400) (f : Fin 4) (k : Fin 17) :
    val_main_v7 (F := Ideal) X (ix4 b l f k) = Ideal.exp (bins X b l f k - peak (bins X b l f)) := by
  rw [val_main_v7_apply, val_main_v6_apply, bins_at, spread_at]
  rfl

/-- A side's expected bin value. -/
theorem side_at (hX : ∀ i, (⊥ : EReal) < X i ∧ X i < ⊤) (b : Fin 16) (l : Fin 8400) (f : Fin 4) :
    val_main_v12 (F := Ideal) X P (ix3 b l f) = mean (bins X b l f) (fun k => P (ix1 k)) := by
  rw [← mean_eq (bins X b l f) _ fun k => hX _]
  have h := weight_at X b l f
  unfold val_main_v12 val_main_v11 val_main_v10 val_main_v9 val_main_v8
  generalize val_main_v7 (F := Ideal) X = z at h
  pointwise [val_main_cst_1]
  simp only [h]

/-- The box of an anchor is the one the kernel computes for it. -/
theorem box_at (hX : ∀ i, (⊥ : EReal) < X i ∧ X i < ⊤) (b : Fin 16) (l : Fin 8400) (f : Fin 4) :
    val_main_v24 (F := Ideal) X A S P (ix3 b l f) = Cert.KernelIdeal.Value.box X A S P b l f := by
  have h := side_at X P hX b l
  unfold val_main_v24 val_main_v23 val_main_v22 val_main_v21 val_main_v20 val_main_v19 val_main_v18 val_main_v17 val_main_v16
    val_main_v15 val_main_v14 val_main_v13
  generalize val_main_v12 (F := Ideal) X P = z at h
  pointwise []
  rcases f with ⟨f, hf⟩
  interval_cases f
  · rw [dif_pos (show (0 : ℕ) < 2 by decide), h]
    rfl
  · rw [dif_pos (show (1 : ℕ) < 2 by decide), h]
    rfl
  · rw [dif_neg (show ¬(2 : ℕ) < 2 by decide), h]
    rfl
  · rw [dif_neg (show ¬(3 : ℕ) < 2 by decide), h]
    rfl

end Cert.ReferenceIdeal.Read

end
-- ==== Proof.RefTop.lean ====
/- The reference's ranking: its best scores and their positions. -/
module

public import proofs.«01_k».proof.Proof.Gen.ReferenceIdeal.Read
public import proofs.«01_k».proof.Proof.Scores
public import proofs.«01_k».proof.Proof.Softmax
public import Idealize.ShloMosaic.Lib.Pointwise
public import Idealize.ShloMosaic.Lib.SortFacts

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Nms
open Cert.KernelIdeal.Value (best pick top)

variable (Y : FVec Ideal S16x8400x80 .f32)

/-- The class scores of an anchor. -/
theorem class_at (b : Fin 16) (l : Fin 8400) (k : Fin 80) :
    val_main_v30 (F := Ideal) Y (ix3 b l k) = Ideal.logistic (Y (ix3 b l k)) := by
  pointwise [val_main_v30, val_main_v29, val_main_v28, val_main_v27, val_main_v26, val_main_v25, val_main_cst_2, val_main_cst_3]
  rfl

/-- An anchor's score is the logistic function of its largest class logit. -/
theorem score_at (b : Fin 16) (l : Fin 8400) : val_main_v31 (F := Ideal) Y (ix2 b l) = Ideal.logistic (best Y b l) := by
  have h := class_at Y b l
  unfold val_main_v31
  generalize val_main_v30 (F := Ideal) Y = z at h
  pointwise [val_main_cst_4]
  rw [ofBits_minus_inf]
  refine (Cert.KernelIdeal.Value.fold_max_congr h).trans ?_
  exact fold_max_mono Ideal.logistic logistic_strictMono.monotone _

section Rows

variable {N M : ℕ} {α β : Type}

/-- An entry of a row at another column. -/
theorem along_row (b : Fin N) (k q : Fin M) : Shape.Idx.along (s := ⟨2, ![N, M]⟩) (ix2 b k) 1 q = ix2 b q :=
  funext fun a => match a with
    | ⟨0, _⟩ => rfl
    | ⟨1, _⟩ => rfl

/-- A sort of the rows of two arrays by the first one's values permutes each row by that order. -/
theorem sort2_at (gt : α → α → BitVec 1) (x : (⟨2, ![N, M]⟩ : Shape).Idx → α) (y : (⟨2, ![N, M]⟩ : Shape).Idx → β) (b : Fin N) (l : Fin M) :
    (Host.sort2 ⟨2, ![N, M]⟩ 1 (fun p q => gt p.1 q.1) x y).1 (ix2 b l)
        = x (ix2 b (sortedFrom (fun q q' : Fin M => gt (x (ix2 b q)) (x (ix2 b q')) == 1#1) l)) ∧
      (Host.sort2 ⟨2, ![N, M]⟩ 1 (fun p q => gt p.1 q.1) x y).2 (ix2 b l)
        = y (ix2 b (sortedFrom (fun q q' : Fin M => gt (x (ix2 b q)) (x (ix2 b q')) == 1#1) l)) := by
  unfold Host.sort2
  rw [dif_pos (show 1 < 2 by decide)]
  have e : (fun q q' : Fin M => gt (x (Shape.Idx.along (s := ⟨2, ![N, M]⟩) (ix2 b l) 1 q)) (x (Shape.Idx.along (s := ⟨2, ![N, M]⟩) (ix2 b l) 1 q')) == 1#1)
      = fun q q' : Fin M => gt (x (ix2 b q)) (x (ix2 b q')) == 1#1 := by
    funext q q'
    rw [along_row, along_row]
  rw [← e]
  exact ⟨congrArg x (along_row b l _), congrArg y (along_row b l _)⟩

end Rows

/-- The position along a row that a stable descending sort puts at `k`. -/
def seat (x : FVec Ideal S16x8400 .f32) (b : Fin 16) (k : Fin 300) : Fin 8400 :=
  sortedFrom (fun q q' : Fin 8400 => Ideal.cmpTotal .gt (x (ix2 b q)) (x (ix2 b q')) == 1#1) ⟨k.val, by omega⟩

/-- A leading entry of a row. -/
theorem leading_at {α : Type} (x : S16x8400.Idx → α) (h : S16x8400.Slices (fun _ => 0) S16x300) (b : Fin 16) (k : Fin 300) :
    extractStridedSlice S16x300 (fun _ => 0) x h (ix2 b k) = x (ix2 b ⟨k.val, by omega⟩) :=
  extractStridedSlice_apply _ x h _ _ fun a => match a with
    | ⟨0, _⟩ => (Nat.zero_add _).symm
    | ⟨1, _⟩ => (Nat.zero_add _).symm

/-- The greatest values of each row and their positions, at one rank. -/
theorem topK_at (x : FVec Ideal S16x8400 .f32) (b : Fin 16) (k : Fin 300) :
    (Host.topK S16x300 1 (FloatOps.cmpfTotal (F := Ideal) (φ := .f32) .gt) x sliceFits_S16x8400_S16x300).1 (ix2 b k) = x (ix2 b (seat x b k)) ∧
    (Host.topK S16x300 1 (FloatOps.cmpfTotal (F := Ideal) (φ := .f32) .gt) x sliceFits_S16x8400_S16x300).2 (ix2 b k)
      = BitVec.ofNat 32 (seat x b k).val := by
  let y : IVec S16x8400 32 := fun i => if hd : 1 < S16x8400.rank then iotaInDim S16x8400 32 ⟨1, hd⟩ i else 0#32
  have hy : ∀ q, y (ix2 b q) = BitVec.ofNat 32 q.val := fun q => dif_pos (show 1 < 2 by decide)
  have h := sort2_at (FloatOps.cmpfTotal (F := Ideal) (φ := .f32) .gt) x y b ⟨k.val, by omega⟩
  unfold Host.topK
  exact ⟨(leading_at _ sliceFits_S16x8400_S16x300 b k).trans h.1, ((leading_at _ sliceFits_S16x8400_S16x300 b k).trans h.2).trans (hy _)⟩

/-- Sorting the scores along a row ranks the class maxima. -/
theorem seat_eq (b : Fin 16) (k : Fin 300) : seat (val_main_v31 (F := Ideal) Y) b k = pick Y b k := by
  unfold seat pick rank
  refine congrFun (sortedFrom_congr _ _ fun q q' _ => ?_) _
  rw [score_at, score_at]
  show (BitVec.ofBool (decide (Ideal.logistic (best Y b q') < Ideal.logistic (best Y b q))) == 1#1) = _
  rw [decide_eq_decide.mpr logistic_strictMono.lt_iff_lt]
  cases decide (best Y b q' < best Y b q) <;> rfl

/-- The position of rank `k`. -/
theorem indices_at (b : Fin 16) (k : Fin 300) :
    val_main_indices (F := Ideal) Y (ix2 b k) = BitVec.ofNat 32 (pick Y b k).val := by
  rw [← seat_eq]
  exact (topK_at _ b k).2

/-- The score of rank `k`. -/
theorem values_at (b : Fin 16) (k : Fin 300) : val_main_values (F := Ideal) Y (ix2 b k) = top Y b k := by
  unfold top
  rw [← score_at, ← seat_eq]
  exact (topK_at _ b k).1

end Cert.ReferenceIdeal.Read

end
-- ==== Proof.RefNms.lean ====
/- The reference's suppression of overlapping boxes. -/
module

public import proofs.«01_k».proof.Proof.RefBox
public import proofs.«01_k».proof.Proof.RefTop
public import proofs.«01_k».proof.Proof.Decode

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Nms
open Cert.KernelIdeal.Value (box pick top entry result)

variable (X : FVec Ideal S16x8400x68 .f32) (Y : FVec Ideal S16x8400x80 .f32) (A : FVec Ideal S8400x2 .f32)
  (S : FVec Ideal S8400x1 .f32) (P : FVec Ideal S17 .f32)

/-- The signed order of two small naturals' words. -/
theorem cmpi_sle_ofNat (a b : ℕ) (ha : a < 2 ^ 31) (hb : b < 2 ^ 31) :
    IntOp.cmpi .sle (BitVec.ofNat 32 a) (BitVec.ofNat 32 b) = BitVec.ofBool (decide (a ≤ b)) := by
  unfold IntOp.cmpi
  simp only [BitVec.sle, toInt_ofNat_small a ha, toInt_ofNat_small b hb, Int.ofNat_le]

/-- The signed order of two small naturals' words, the other way round. -/
theorem cmpi_sge_ofNat (a b : ℕ) (ha : a < 2 ^ 31) (hb : b < 2 ^ 31) :
    IntOp.cmpi .sge (BitVec.ofNat 32 a) (BitVec.ofNat 32 b) = BitVec.ofBool (decide (b ≤ a)) :=
  cmpi_sle_ofNat b a hb ha

/-- A number of a bit is one where the bit is set. -/
theorem uitofp_ofBool (q : Prop) [Decidable q] :
    FloatOps.uitofp (F := Ideal) .f32 (BitVec.ofBool (decide q)) = if q then (1 : EReal) else 0 := by
  by_cases h : q <;> simp [h, FloatOps.uitofp]

/-- The reference's boxes of the picked anchors. -/
def found (b : Fin 16) (k : Fin 300) (f : Fin 4) : EReal := val_main_v33 (F := Ideal) X Y A S P (ix3 b k f)

/-- Two boxes' common area. -/
theorem common_at (b : Fin 16) (i j : Fin 300) :
    val_main_v54 (F := Ideal) X Y A S P (ix3 b i j) = common (found X Y A S P b i) (found X Y A S P b j) := by
  unfold common found
  unfold val_main_v54 val_main_v53 val_main_v52 val_main_v51 val_main_v50 val_main_v49 val_main_v48 val_main_v47 val_main_v46
    val_main_v45 val_main_v44 val_main_v43 val_main_v42 val_main_v41 val_main_v40 val_main_v39 val_main_v38 val_main_v37 val_main_v36
    val_main_v35 val_main_v34
  generalize val_main_v33 (F := Ideal) X Y A S P = z
  pointwise [val_main_call1_v1, val_main_call1_v0, val_main_cst_5]
  rw [show id (constant (F := Ideal) S_ .f32 0#32) ix0 = (0 : EReal) from Ideal.ofBits_zero_f32]

/-- A box's area. -/
theorem area_at (b : Fin 16) (i : Fin 300) :
    val_main_v65 (F := Ideal) X Y A S P (ix2 b i) = area (found X Y A S P b i) := by
  unfold area found
  unfold val_main_v65 val_main_v64 val_main_v63 val_main_v62 val_main_v61 val_main_v60 val_main_v59 val_main_v58 val_main_v57
    val_main_v56 val_main_v55
  generalize val_main_v33 (F := Ideal) X Y A S P = z
  pointwise []

/-- Two boxes' overlap. -/
theorem overlap_at (b : Fin 16) (i j : Fin 300) :
    val_main_v74 (F := Ideal) X Y A S P (ix3 b i j) = overlap (found X Y A S P b i) (found X Y A S P b j) := by
  have h := common_at X Y A S P b i j
  have hi := area_at X Y A S P b
  unfold overlap
  unfold val_main_v74 val_main_v73 val_main_v71 val_main_v70 val_main_v69 val_main_v68 val_main_v67 val_main_v66
  generalize val_main_v54 (F := Ideal) X Y A S P = z at h
  generalize val_main_v65 (F := Ideal) X Y A S P = w at hi
  pointwise [val_main_v72, val_main_cst_6]
  rw [h, hi, hi]

/-- The overlap with an earlier box, zero where the box is not earlier. -/
theorem earlier_at (b : Fin 16) (i j : Fin 300) :
    val_main_v75 (F := Ideal) X Y A S P (ix3 b i j)
      = if i.val < j.val then overlap (found X Y A S P b i) (found X Y A S P b j) else 0 := by
  rw [← overlap_at]
  unfold val_main_v75
  generalize val_main_v74 (F := Ideal) X Y A S P = z
  pointwise [val_main_call2_v7, val_main_call2_v6, val_main_call2_v5, val_main_call2_cst, val_main_call2_v4, val_main_call2_v3, val_main_call2_v2,
    val_main_call2_v1, val_main_call2_v0, val_main_call2_c]
  rw [show IntOp.addi (BitVec.ofNat 32 i.val) 0#32 = BitVec.ofNat 32 i.val from BitVec.add_zero _]
  rw [cmpi_sge_ofNat i.val j.val (by omega) (by omega)]
  by_cases h : i.val < j.val
  · rw [if_pos h, decide_eq_false (by omega : ¬ j.val ≤ i.val)]
    rfl
  · rw [if_neg h, decide_eq_true (by omega : j.val ≤ i.val)]
    rfl

/-- The largest overlap with an earlier box. -/
theorem clash_at (b : Fin 16) (j : Fin 300) :
    val_main_v76 (F := Ideal) X Y A S P (ix2 b j) = clash (found X Y A S P b) j := by
  have h := fun i => earlier_at X Y A S P b i j
  unfold val_main_v76
  generalize val_main_v75 (F := Ideal) X Y A S P = z at h
  pointwise [val_main_cst_7]
  rw [ofBits_minus_inf]
  exact Cert.KernelIdeal.Value.fold_max_congr h

/-- A picked anchor's score, kept or zeroed. -/
theorem kept_at (b : Fin 16) (j : Fin 300) :
    val_main_v80 (F := Ideal) X Y A S P (ix2 b j) = kept (found X Y A S P b) (top Y b j) j := by
  rw [val_main_v80_apply, val_main_v79_apply, val_main_v78_apply, values_at, clash_at]
  exact congrArg (top Y b j * ·) (uitofp_ofBool _)

/-- The word at which the boxes are read. -/
theorem word_at (b : Fin 16) (k : Fin 300) :
    val_main_call0_v4 (F := Ideal) Y (ix3 b k 0) = BitVec.ofNat 32 (pick Y b k).val := by
  have e : val_main_v32 (F := Ideal) Y (ix3 b k 0) = BitVec.ofNat 32 (pick Y b k).val := by
    rw [val_main_v32_apply, ← indices_at]
    exact congrArg _ (funext fun a => match a with
      | ⟨0, _⟩ => rfl
      | ⟨1, _⟩ => rfl)
  rw [val_main_call0_v4_apply, val_main_call0_v1_apply, e]
  exact (select_ofNat_lt (pick Y b k).val 0 (by omega) (by omega) _ _).trans (if_neg (Nat.not_lt_zero _))

/-- That word is a position of an anchor. -/
theorem inside_at (b : Fin 16) (k : Fin 300) : val_main_call0_v11 (F := Ideal) Y (ix2 b k) = 1#1 := by
  have h := word_at Y b k
  unfold val_main_call0_v11 val_main_call0_v10 val_main_call0_v9 val_main_call0_v6
  generalize val_main_call0_v4 (F := Ideal) Y = w at h
  pointwise [val_main_call0_v5, val_main_call0_v7, val_main_call0_v8, val_main_call0_c_1, val_main_call0_c_2, val_main_call0_c_3]
  rw [Finset.univ_unique, Finset.fold_singleton]
  show IntOp.andi (IntOp.andi (IntOp.cmpi .sge (w (ix3 b k 0)) 0#32) (IntOp.cmpi .sle (w (ix3 b k 0)) 8399#32)) 1#1 = 1#1
  rw [h, cmpi_sge_ofNat (pick Y b k).val 0 (by omega) (by omega), cmpi_sle_ofNat (pick Y b k).val 8399 (by omega) (by omega),
    decide_eq_true (Nat.zero_le _), decide_eq_true (by omega : (pick Y b k).val ≤ 8399)]
  rfl

/-- The boxes read there. -/
theorem taken_at (z : FVec Ideal S16x8400x4 .f32) (w : IVec S16x300x1 32) (b : Fin 16) (k : Fin 300) (f : Fin 4) (l : Fin 8400)
    (h : w (ix3 b k 0) = BitVec.ofNat 32 l.val) :
    Host.gather gather_S16x8400x4_S16x300x1_S16x300x4_2_1_0_0_1_2_114 z w (ix3 b k f) = z (ix3 b l f) := by
  have hs : gather_S16x8400x4_S16x300x1_S16x300x4_2_1_0_0_1_2_114.start (ix3 b k f) w 1
      = min (w (ix3 b k 0)).toInt.toNat 8399 := by
    unfold GatherDims.start
    rw [dif_pos (by decide)]
    show min (w _).toInt.toNat 8399 = _
    refine congrArg (fun i => min (w i).toInt.toNat 8399) (funext fun a => ?_)
    match a with
    | ⟨0, _⟩ => rfl
    | ⟨1, _⟩ => rfl
    | ⟨2, _⟩ => rfl
  unfold Host.gather
  refine congrArg z (funext fun a => ?_)
  match a with
  | ⟨0, _⟩ =>
    apply Fin.ext
    show GatherDims.start _ _ _ 0 + GatherDims.batchCoord _ _ 0 + GatherDims.offCoord _ _ 0 = b.val
    rw [GatherDims.start_batching _ _ _ _ (by decide), GatherDims.offCoord_eq_zero _ _ _ (by decide)]
    rw [Nat.zero_add, Nat.add_zero]
    rfl
  | ⟨1, _⟩ =>
    apply Fin.ext
    show GatherDims.start _ _ _ 1 + GatherDims.batchCoord _ _ 1 + GatherDims.offCoord _ _ 1 = l.val
    rw [hs, GatherDims.batchCoord_eq_zero _ _ _ (by decide), GatherDims.offCoord_eq_zero _ _ _ (by decide), h,
      toInt_ofNat_small _ (by omega)]
    show min l.val 8399 = l.val
    omega
  | ⟨2, _⟩ =>
    apply Fin.ext
    show GatherDims.start _ _ _ 2 + GatherDims.batchCoord _ _ 2 + GatherDims.offCoord _ _ 2 = f.val
    rw [GatherDims.batchCoord_eq_zero _ _ _ (by decide)]
    have hz : gather_S16x8400x4_S16x300x1_S16x300x4_2_1_0_0_1_2_114.start (ix3 b k f) w 2 = 0 := by
      unfold GatherDims.start
      rw [dif_neg (by decide)]
    rw [hz, Nat.zero_add]
    rfl

/-- The last axis of the result. -/
theorem last_at (b : Fin 16) (k : Fin 300) (f : Fin 5) :
    val_main_v82 (F := Ideal) X Y A S P (ix3 b k f)
      = if h : f.val < 4 then found X Y A S P b k ⟨f.val, h⟩ else val_main_v80 (F := Ideal) X Y A S P (ix2 b k) := by
  unfold found val_main_v82 val_main_v81
  generalize val_main_v33 (F := Ideal) X Y A S P = z
  generalize val_main_v80 (F := Ideal) X Y A S P = w
  pointwise []

/-- The reference reads the picked anchors' boxes, which are the kernel's. -/
theorem found_at (hX : ∀ i, (⊥ : EReal) < X i ∧ X i < ⊤) (b : Fin 16) (k : Fin 300) :
    found X Y A S P b k = box X A S P b (pick Y b k) := by
  funext f
  unfold found
  have e : val_main_call0_v13 (F := Ideal) Y (ix3 b k f) = 1#1 := by
    rw [val_main_call0_v13_apply, ← inside_at Y b k]
    exact congrArg _ (funext fun a => match a with
      | ⟨0, _⟩ => rfl
      | ⟨1, _⟩ => rfl)
  rw [val_main_v33_apply, e, ← box_at X A S P hX]
  show val_main_call0_v12 (F := Ideal) X Y A S P (ix3 b k f) = _
  exact taken_at (val_main_v24 (F := Ideal) X A S P) _ b k f _ (word_at Y b k)

/-- The reference's result is the kernel's. -/
theorem result_eq (hX : ∀ i, (⊥ : EReal) < X i ∧ X i < ⊤) :
    val_main_v82 (F := Ideal) X Y A S P = result X Y A S P := by
  funext j
  idx_vars j
  rw [last_at, kept_at, funext (found_at X Y A S P hX _)]
  rfl

end Cert.ReferenceIdeal.Read

end
-- ==== Proof.Pre.lean ====
/- What the precondition says of the logits. -/
module

public import proofs.«01_k».proof.Pre_decodable_logits
public import Idealize.ShloMosaic.Lib.ReduceAll
public import Idealize.ShloMosaic.PureOps.Ideal.Laws

@[expose] public section

noncomputable section

open Idealize.ShloMosaic

namespace Cert.Pre_decodable_logits

/-- The shape relations the precondition's operations take. -/
theorem facts : Facts where
  bcast_S_S16x8400x68 := by decide
  reducesTo_S16x8400x68_S_d0_1_2 := by decide
  h_S_ := by decide
  bcast_S_S16x8400x80 := by decide
  reducesTo_S16x8400x80_S_d0_1_2 := by decide

/-- A set bit of a comparison says that it holds. -/
theorem of_ofBool {q : Prop} [Decidable q] (h : BitVec.ofBool (decide q) = 1#1) : q := by
  by_cases hq : q
  · exact hq
  · rw [decide_eq_false hq] at h
    exact absurd h (by decide)

/-- Where the precondition holds the bin logits are finite and the class logits are above minus infinity. -/
theorem logits [Facts] (X : FVec Ideal S16x8400x68 .f32) (Y : FVec Ideal S16x8400x80 .f32) (A : FVec Ideal S8400x2 .f32)
    (S : FVec Ideal S8400x1 .f32) (P : FVec Ideal S17 .f32) (h : fn X Y A S P = fun _ => 1#1) :
    (∀ i, (⊥ : EReal) < X i ∧ X i < ⊤) ∧ ∀ i, (⊥ : EReal) < Y i := by
  have ht : Ideal.ofBits .f32 0x7F800000#32 = ⊤ := by simp [Ideal.ofBits, Ideal.ieee]
  have hb : Ideal.ofBits .f32 0xFF800000#32 = ⊥ := by simp [Ideal.ofBits, Ideal.ieee]
  have h0 := congrFun h (Shape.Idx.first Facts.h_S_)
  obtain ⟨h1, h2⟩ := (IntOp.andi_eq_one (c := _) (d := _)).mp h0
  constructor
  · intro i
    obtain ⟨hl, hu⟩ := (IntOp.andi_eq_one (c := _) (d := _)).mp (Host.reduce_andi_all _ _ _ _ _ h1 i)
    refine ⟨?_, ?_⟩
    · rw [← hb]
      exact of_ofBool hl
    · rw [← ht]
      exact of_ofBool hu
  · intro i
    rw [← hb]
    exact of_ofBool (Host.reduce_andi_all _ _ _ _ _ h2 i)

end Cert.Pre_decodable_logits

end
-- ==== Proof.lean ====
/- The three frames, the idealization and the equality of the kernel's and the reference's results at the extended
   reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.RefNms
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments unchanged and every counter at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result of equal arguments is the kernel's. -/
theorem reference_result (X X' : FVec Ideal Cert.ReferenceIdeal.S16x8400x68 .f32) (Y Y' : FVec Ideal Cert.ReferenceIdeal.S16x8400x80 .f32)
    (A A' : FVec Ideal Cert.ReferenceIdeal.S8400x2 .f32) (S S' : FVec Ideal Cert.ReferenceIdeal.S8400x1 .f32)
    (P P' : FVec Ideal Cert.ReferenceIdeal.S17 .f32) (hX : ∀ i, (⊥ : EReal) < X i ∧ X i < ⊤)
    (h0 : X' = X) (h1 : Y' = Y) (h2 : A' = A) (h3 : S' = S) (h4 : P' = P) :
    Cert.ReferenceIdeal.Read.val_main_v82 (F := Ideal) X' Y' A' S' P' = Cert.KernelIdeal.Value.result X Y A S P := by
  rw [h0, h1, h2, h3, h4]
  exact Cert.ReferenceIdeal.Read.result_eq X Y A S P hX

/-- The kernel and the reference end with equal results. -/
theorem agree : Cert.algebraic_KernelIdeal_ReferenceIdeal_pre_decodable_logits (hKernelIdeal := Cert.KernelIdeal.Gen.facts)
    (hReferenceIdeal := Cert.ReferenceIdeal.Gen.facts) (hPre_decodable_logits := Cert.Pre_decodable_logits.facts) := by
  intro m g m' g' hm hargs
  have hp := fun c => @Cert.Pre_decodable_logits.logits Cert.Pre_decodable_logits.facts _ _ _ _ _ (hm c)
  refine ⟨Cert.KernelIdeal.Value.resultOf m, Cert.KernelIdeal.Value.run m g fun c => (hp c).2, ?_⟩
  refine (θ_run Cert.ReferenceIdeal.defs _ _).mono (fun r h c => ⟨(h c).1.trans ?_, (h c).2⟩) (Cert.ReferenceIdeal.Value.run (F := Ideal) m' g')
  obtain ⟨h0, h1, h2, h3, h4⟩ := hargs c
  exact (Cert.ReferenceIdeal.Read.val_main_v82_eq _).trans (reference_result _ _ _ _ _ _ _ _ _ _ (hp c).1 h0 h1 h2 h3 h4)

/-- Every claim. -/
theorem claim : Cert.Claim :=
  ⟨Cert.Kernel.Gen.facts, Cert.KernelIdeal.Gen.facts, Cert.ReferenceIdeal.Gen.facts, Cert.Pre_decodable_logits.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    agree⟩

end Cert.Proof

end
